-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "eps" .f32 0x358637BD#32 ((8796093 / 8796093022208 : ℝ) : EReal)
  ∧ IdealRules.named_const.Statement Cert.KernelIdeal.κ "eps" .bf16 0x3586#16 ((8796093 / 8796093022208 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x1024 : Shape := ⟨3, ![4, 2048, 1024]⟩
abbrev S64x1024 : Shape := ⟨2, ![64, 1024]⟩
abbrev S64 : Shape := ⟨1, ![64]⟩
abbrev S64x128 : Shape := ⟨2, ![64, 128]⟩
abbrev S64x64 : Shape := ⟨2, ![64, 64]⟩
abbrev S2048 : Shape := ⟨1, ![2048]⟩
abbrev S_ : Shape := ⟨0, ![]⟩
abbrev S128 : Shape := ⟨1, ![128]⟩
abbrev S128x132 : Shape := ⟨2, ![128, 132]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x2048x1024 .f32) (main_arg1 : FVec F S64x1024 .f32) (main_arg2 : FVec F S64 .f32) (main_arg3 : FVec F S64x128 .f32) (main_arg4 : FVec F S64x64 .f32) (main_arg5 : FVec F S64x64 .f32) (main_arg6 : FVec F S2048 .f32) (main_arg7 : FVec F S_ .f32) (main_arg8 : FVec F S128 .f32) (main_arg9 : FVec F S128x132 .f32) (main_arg10 : FVec F S128 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x2048x1024 : Shape := ⟨3, ![4, 2048, 1024]⟩
abbrev S64x1024 : Shape := ⟨2, ![64, 1024]⟩
abbrev S64 : Shape := ⟨1, ![64]⟩
abbrev S64x128 : Shape := ⟨2, ![64, 128]⟩
abbrev S64x64 : Shape := ⟨2, ![64, 64]⟩
abbrev S2048 : Shape := ⟨1, ![2048]⟩
abbrev S_ : Shape := ⟨0, ![]⟩
abbrev S128 : Shape := ⟨1, ![128]⟩
abbrev S128x132 : Shape := ⟨2, ![128, 132]⟩
abbrev S1x64 : Shape := ⟨2, ![1, 64]⟩
abbrev S1x2048 : Shape := ⟨2, ![1, 2048]⟩
abbrev S1x1 : Shape := ⟨2, ![1, 1]⟩
abbrev S1x128 : Shape := ⟨2, ![1, 128]⟩
abbrev S4x1x2048 : Shape := ⟨3, ![4, 1, 2048]⟩
abbrev S1x2048x1024 : Shape := ⟨3, ![1, 2048, 1024]⟩
abbrev S1x1x2048 : Shape := ⟨3, ![1, 1, 2048]⟩
abbrev S3072x1024 : Shape := ⟨2, ![3072, 1024]⟩
abbrev S2048x1024 : Shape := ⟨2, ![2048, 1024]⟩
abbrev S2048x64 : Shape := ⟨2, ![2048, 64]⟩
abbrev S2048x1 : Shape := ⟨2, ![2048, 1]⟩
abbrev S1 : Shape := ⟨1, ![1]⟩
abbrev S1x1x1 : Shape := ⟨3, ![1, 1, 1]⟩
abbrev S1x2047 : Shape := ⟨2, ![1, 2047]⟩
abbrev S1x2046 : Shape := ⟨2, ![1, 2046]⟩
abbrev S1x2 : Shape := ⟨2, ![1, 2]⟩
abbrev S1024x64 : Shape := ⟨2, ![1024, 64]⟩
abbrev S1024x1024 : Shape := ⟨2, ![1024, 1024]⟩
abbrev S1024x1 : Shape := ⟨2, ![1024, 1]⟩
abbrev S1x1024 : Shape := ⟨2, ![1, 1024]⟩
abbrev S1x4 : Shape := ⟨2, ![1, 4]⟩
abbrev S1x132 : Shape := ⟨2, ![1, 132]⟩

abbrev nBuf : Space → Nat
  | .hbm => 17
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S64x1024, .f32⟩
  | .hbm, ⟨2, _⟩ => ⟨S64, .f32⟩
  | .hbm, ⟨3, _⟩ => ⟨S64x128, .f32⟩
  | .hbm, ⟨4, _⟩ => ⟨S64x64, .f32⟩
  | .hbm, ⟨5, _⟩ => ⟨S64x64, .f32⟩
  | .hbm, ⟨6, _⟩ => ⟨S2048, .f32⟩
  | .hbm, ⟨7, _⟩ => ⟨S_, .f32⟩
  | .hbm, ⟨8, _⟩ => ⟨S128, .f32⟩
  | .hbm, ⟨9, _⟩ => ⟨S128x132, .f32⟩
  | .hbm, ⟨10, _⟩ => ⟨S128, .f32⟩
  | .hbm, ⟨11, _⟩ => ⟨S1x64, .f32⟩
  | .hbm, ⟨12, _⟩ => ⟨S1x2048, .f32⟩
  | .hbm, ⟨13, _⟩ => ⟨S1x1, .f32⟩
  | .hbm, ⟨14, _⟩ => ⟨S1x128, .f32⟩
  | .hbm, ⟨15, _⟩ => ⟨S1x128, .f32⟩
  | .hbm, ⟨16, _⟩ => ⟨S4x1x2048, .f32⟩
  | .local _ .vmem, ⟨0, _⟩ => ⟨S1x2048x1024, .f32⟩
  | .local _ .vmem, ⟨1, _⟩ => ⟨S1x2048x1024, .f32⟩
  | .local _ .vmem, ⟨2, _⟩ => ⟨S64x1024, .f32⟩
  | .local _ .vmem, ⟨3, _⟩ => ⟨S1x64, .f32⟩
  | .local _ .vmem, ⟨4, _⟩ => ⟨S64x128, .f32⟩
  | .local _ .vmem, ⟨5, _⟩ => ⟨S64x64, .f32⟩
  | .local _ .vmem, ⟨6, _⟩ => ⟨S1x2048, .f32⟩
  | .local _ .vmem, ⟨7, _⟩ => ⟨S1x1, .f32⟩
  | .local _ .vmem, ⟨8, _⟩ => ⟨S1x128, .f32⟩
  | .local _ .vmem, ⟨9, _⟩ => ⟨S128x132, .f32⟩
  | .local _ .vmem, ⟨10, _⟩ => ⟨S1x128, .f32⟩
  | .local _ .vmem, ⟨11, _⟩ => ⟨S1x1x2048, .f32⟩
  | .local _ .vmem, ⟨12, _⟩ => ⟨S1x1x2048, .f32⟩
  | .local _ .vmem, ⟨13, _⟩ => ⟨S3072x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x132 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "eps" => some ((8796093 / 8796093022208 : ℝ) : EReal)
  | _ => none
-- ==== ReferenceIdeal.lean ====
abbrev S4x2048x1024 : Shape := ⟨3, ![4, 2048, 1024]⟩
abbrev S64x1024 : Shape := ⟨2, ![64, 1024]⟩
abbrev S64 : Shape := ⟨1, ![64]⟩
abbrev S64x128 : Shape := ⟨2, ![64, 128]⟩
abbrev S64x64 : Shape := ⟨2, ![64, 64]⟩
abbrev S2048 : Shape := ⟨1, ![2048]⟩
abbrev S_ : Shape := ⟨0, ![]⟩
abbrev S128 : Shape := ⟨1, ![128]⟩
abbrev S128x132 : Shape := ⟨2, ![128, 132]⟩
abbrev S4x2048x64 : Shape := ⟨3, ![4, 2048, 64]⟩
abbrev S1x1x64 : Shape := ⟨3, ![1, 1, 64]⟩
abbrev S1x128 : Shape := ⟨2, ![1, 128]⟩
abbrev S4x128 : Shape := ⟨2, ![4, 128]⟩
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩
abbrev S128x64 : Shape := ⟨2, ![128, 64]⟩
abbrev S4x64 : Shape := ⟨2, ![4, 64]⟩
abbrev S1x2048 : Shape := ⟨2, ![1, 2048]⟩
abbrev S4 : Shape := ⟨1, ![4]⟩
abbrev S4x1 : Shape := ⟨2, ![4, 1]⟩
abbrev S4x2047 : Shape := ⟨2, ![4, 2047]⟩
abbrev S4x2046 : Shape := ⟨2, ![4, 2046]⟩
abbrev S4x2 : Shape := ⟨2, ![4, 2]⟩
abbrev S1 : Shape := ⟨1, ![1]⟩
abbrev S4x4 : Shape := ⟨2, ![4, 4]⟩
abbrev S4x132 : Shape := ⟨2, ![4, 132]⟩
abbrev S132x128 : Shape := ⟨2, ![132, 128]⟩

abbrev nBuf : Space → Nat
  | .hbm => 351
  | .vmem => 0
  | .smem => 0
  | _ => 0

abbrev hbmTy0_0 (i : Nat) : BufTy := match i % 128 with
  | 0 => ⟨S4x2048x1024, .f32⟩
  | 1 => ⟨S64x1024, .f32⟩
  | 2 => ⟨S64, .f32⟩
  | 3 => ⟨S64x128, .f32⟩
  | 4 => ⟨S64x64, .f32⟩
  | 5 => ⟨S64x64, .f32⟩
  | 6 => ⟨S2048, .f32⟩
  | 7 => ⟨S_, .f32⟩
  | 8 => ⟨S128, .f32⟩
  | 9 => ⟨S128x132, .f32⟩
  | 10 => ⟨S128, .f32⟩
  | 11 => ⟨S4x2048x64, .f32⟩
  | 12 => ⟨S1x1x64, .f32⟩
  | 13 => ⟨S4x2048x64, .f32⟩
  | 14 => ⟨S4x2048x64, .f32⟩
  | 15 => ⟨S1x128, .f32⟩
  | 16 => ⟨S4x128, .f32⟩
  | 17 => ⟨S_, .f32⟩
  | 18 => ⟨S4x2048, .f32⟩
  | 19 => ⟨S2048, .f32⟩
  | 20 => ⟨S4x2048x64, .f32⟩
  | 21 => ⟨S_, .f32⟩
  | 22 => ⟨S4x2048, .f32⟩
  | 23 => ⟨S4x2048x2048, .f32⟩
  | 24 => ⟨S4x2048x1, .f32⟩
  | 25 => ⟨S4x1x2048, .f32⟩
  | 26 => ⟨S4x2048x2048, .f32⟩
  | 27 => ⟨S4x2048x2048, .f32⟩
  | 28 => ⟨S4x2048x2048, .f32⟩
  | 29 => ⟨S_, .f32⟩
  | 30 => ⟨S4x2048x2048, .f32⟩
  | 31 => ⟨S4x2048x2048, .f32⟩
  | 32 => ⟨S4x2048x2048, .f32⟩
  | 33 => ⟨S_, .f32⟩
  | 34 => ⟨S4x2048x2048, .f32⟩
  | 35 => ⟨S4x2048x2048, .f32⟩
  | 36 => ⟨S_, .f32⟩
  | 37 => ⟨S4x2048x2048, .f32⟩
  | 38 => ⟨S4x2048x2048, .f32⟩
  | 39 => ⟨S4x2048x2048, .f32⟩
  | 40 => ⟨S128x64, .f32⟩
  | 41 => ⟨S4x64, .f32⟩
  | 42 => ⟨S4x2048x64, .f32⟩
  | 43 => ⟨S4x2048x64, .f32⟩
  | 44 => ⟨S4x2048, .f32⟩
  | 45 => ⟨S_, .f32⟩
  | 46 => ⟨S4x2048, .f32⟩
  | 47 => ⟨S4x2048, .f32⟩
  | 48 => ⟨S1x2048, .f32⟩
  | 49 => ⟨S4x2048, .f32⟩
  | 50 => ⟨S4x2048, .f32⟩
  | 51 => ⟨S_, .f32⟩
  | 52 => ⟨S4x2048, .f32⟩
  | 53 => ⟨S4x2048, .f32⟩
  | 54 => ⟨S4x2048, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S4x2048, .f32⟩
  | 63 => ⟨S4x2048, .f32⟩
  | 64 => ⟨S4x2048, .f32⟩
  | 65 => ⟨S4x2048, .f32⟩
  | 66 => ⟨S_, .f32⟩
  | 67 => ⟨S4x2048, .f32⟩
  | 68 => ⟨S4x2048, .f32⟩
  | 69 => ⟨S_, .f32⟩
  | 70 => ⟨S4x2048, .f32⟩
  | 71 => ⟨S4x2048, .f32⟩
  | 72 => ⟨S_, .f32⟩
  | 73 => ⟨S4, .f32⟩
  | 74 => ⟨S4x1, .f32⟩
  | 75 => ⟨S_, .f32⟩
  | 76 => ⟨S4x1, .f32⟩
  | 77 => ⟨S4x1, .f32⟩
  | 78 => ⟨S_, .f32⟩
  | 79 => ⟨S4x1, .f32⟩
  | 80 => ⟨S4x1, .f32⟩
  | 81 => ⟨S_, .f32⟩
  | 82 => ⟨S4x1, .f32⟩
  | 83 => ⟨S4x1, .f32⟩
  | 84 => ⟨S4x2048, .f32⟩
  | 85 => ⟨S4x2048, .f32⟩
  | 86 => ⟨S4x2047, .f32⟩
  | 87 => ⟨S4x1, .f32⟩
  | 88 => ⟨S4x2048, .f32⟩
  | 89 => ⟨S_, .f32⟩
  | 90 => ⟨S4x2048, .f32⟩
  | 91 => ⟨S4x2048, .f32⟩
  | 92 => ⟨S4x2048, .f32⟩
  | 93 => ⟨S_, .f32⟩
  | 94 => ⟨S4x2048, .f32⟩
  | 95 => ⟨S4x2048, .f32⟩
  | 96 => ⟨S_, .f32⟩
  | 97 => ⟨S4x2048, .f32⟩
  | 98 => ⟨S4x2048, .f32⟩
  | 99 => ⟨S4x2048, .f32⟩
  | 100 => ⟨S4x2046, .f32⟩
  | 101 => ⟨S4x2, .f32⟩
  | 102 => ⟨S4x2048, .f32⟩
  | 103 => ⟨S_, .f32⟩
  | 104 => ⟨S4x2048, .f32⟩
  | 105 => ⟨S4x2048, .f32⟩
  | 106 => ⟨S4x2048, .f32⟩
  | 107 => ⟨S_, .f32⟩
  | 108 => ⟨S4x2048, .f32⟩
  | 109 => ⟨S4x2048, .f32⟩
  | 110 => ⟨S_, .f32⟩
  | 111 => ⟨S4x2048, .f32⟩
  | 112 => ⟨S4x2048, .f32⟩
  | 113 => ⟨S4x2048, .f32⟩
  | 114 => ⟨S_, .i32⟩
  | 115 => ⟨S1, .i32⟩
  | 116 => ⟨S_, .f32⟩
  | 117 => ⟨S4, .f32⟩
  | 118 => ⟨S4x2048, .f32⟩
  | 119 => ⟨S_, .f32⟩
  | 120 => ⟨S4, .f32⟩
  | 121 => ⟨S_, .f32⟩
  | 122 => ⟨S4, .f32⟩
  | 123 => ⟨S4, .f32⟩
  | 124 => ⟨S_, .f32⟩
  | 125 => ⟨S4, .f32⟩
  | 126 => ⟨S4x1, .f32⟩
  | 127 => ⟨S_, .f32⟩
  | _ => ⟨S4x2048x1024, .f32⟩

abbrev hbmTy0_1 (i : Nat) : BufTy := match i % 128 with
  | 0 => ⟨S4x1, .f32⟩
  | 1 => ⟨S4x1, .f32⟩
  | 2 => ⟨S4x2048, .f32⟩
  | 3 => ⟨S4x2048, .f32⟩
  | 4 => ⟨S_, .f32⟩
  | 5 => ⟨S4x2048, .f32⟩
  | 6 => ⟨S4x2048, .f32⟩
  | 7 => ⟨S4x2048, .f32⟩
  | 8 => ⟨S4x2048, .f32⟩
  | 9 => ⟨S_, .f32⟩
  | 10 => ⟨S4, .f32⟩
  | 11 => ⟨S4, .f32⟩
  | 12 => ⟨S_, .f32⟩
  | 13 => ⟨S4, .f32⟩
  | 14 => ⟨S4x1, .f32⟩
  | 15 => ⟨S_, .f32⟩
  | 16 => ⟨S4x1, .f32⟩
  | 17 => ⟨S4x1, .f32⟩
  | 18 => ⟨S1x2048, .f32⟩
  | 19 => ⟨S4x2048, .f32⟩
  | 20 => ⟨S4x2048, .f32⟩
  | 21 => ⟨S_, .f32⟩
  | 22 => ⟨S4, .f32⟩
  | 23 => ⟨S4x1, .f32⟩
  | 24 => ⟨S4x1, .f32⟩
  | 25 => ⟨S1x2048, .f32⟩
  | 26 => ⟨S4x2048, .f32⟩
  | 27 => ⟨S4x2048, .f32⟩
  | 28 => ⟨S4x2048, .f32⟩
  | 29 => ⟨S4x2048, .f32⟩
  | 30 => ⟨S4x2048, .f32⟩
  | 31 => ⟨S_, .f32⟩
  | 32 => ⟨S4, .f32⟩
  | 33 => ⟨S4, .f32⟩
  | 34 => ⟨S4, .f32⟩
  | 35 => ⟨S_, .f32⟩
  | 36 => ⟨S4, .f32⟩
  | 37 => ⟨S4, .f32⟩
  | 38 => ⟨S4, .f32⟩
  | 39 => ⟨S4x1x2048, .f32⟩
  | 40 => ⟨S4x2048x1, .f32⟩
  | 41 => ⟨S4x2048x2048, .f32⟩
  | 42 => ⟨S4x2048x2048, .f32⟩
  | 43 => ⟨S4x2048x2048, .f32⟩
  | 44 => ⟨S4x2048x2048, .f32⟩
  | 45 => ⟨S_, .f32⟩
  | 46 => ⟨S4, .f32⟩
  | 47 => ⟨S_, .f32⟩
  | 48 => ⟨S4, .f32⟩
  | 49 => ⟨S_, .f32⟩
  | 50 => ⟨S4, .f32⟩
  | 51 => ⟨S4, .f32⟩
  | 52 => ⟨S4, .f32⟩
  | 53 => ⟨S4, .f32⟩
  | 54 => ⟨S4x1, .f32⟩
  | 55 => ⟨S4x1, .f32⟩
  | 56 => ⟨S4x1, .f32⟩
  | 57 => ⟨S4x1, .f32⟩
  | 58 => ⟨S4x4, .f32⟩
  | 59 => ⟨S4x132, .f32⟩
  | 60 => ⟨S132x128, .f32⟩
  | 61 => ⟨S4x128, .f32⟩
  | 62 => ⟨S1x128, .f32⟩
  | 63 => ⟨S4x128, .f32⟩
  | 64 => ⟨S4x128, .f32⟩
  | 65 => ⟨S4x128, .f32⟩
  | 66 => ⟨S4x2048, .f32⟩
  | 67 => ⟨S128x64, .f32⟩
  | 68 => ⟨S4x64, .f32⟩
  | 69 => ⟨S4x2048x64, .f32⟩
  | 70 => ⟨S4x2048x64, .f32⟩
  | 71 => ⟨S4x2048, .f32⟩
  | 72 => ⟨S_, .f32⟩
  | 73 => ⟨S4x2048, .f32⟩
  | 74 => ⟨S4x2048, .f32⟩
  | 75 => ⟨S1x2048, .f32⟩
  | 76 => ⟨S4x2048, .f32⟩
  | 77 => ⟨S4x2048, .f32⟩
  | 78 => ⟨S_, .f32⟩
  | 79 => ⟨S4x2048, .f32⟩
  | 80 => ⟨S4x2048, .f32⟩
  | 81 => ⟨S4x2048, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S4x2048, .f32⟩
  | 90 => ⟨S4x2048, .f32⟩
  | 91 => ⟨S4x2048, .f32⟩
  | 92 => ⟨S4x2048, .f32⟩
  | 93 => ⟨S_, .f32⟩
  | 94 => ⟨S4x2048, .f32⟩
  | 95 => ⟨S4x2048, .f32⟩
  | 96 => ⟨S_, .f32⟩
  | 97 => ⟨S4x2048, .f32⟩
  | 98 => ⟨S4x2048, .f32⟩
  | 99 => ⟨S_, .f32⟩
  | 100 => ⟨S4, .f32⟩
  | 101 => ⟨S4x1, .f32⟩
  | 102 => ⟨S_, .f32⟩
  | 103 => ⟨S4x1, .f32⟩
  | 104 => ⟨S4x1, .f32⟩
  | 105 => ⟨S_, .f32⟩
  | 106 => ⟨S4x1, .f32⟩
  | 107 => ⟨S4x1, .f32⟩
  | 108 => ⟨S_, .f32⟩
  | 109 => ⟨S4x1, .f32⟩
  | 110 => ⟨S4x1, .f32⟩
  | 111 => ⟨S4x2048, .f32⟩
  | 112 => ⟨S4x2048, .f32⟩
  | 113 => ⟨S4x2047, .f32⟩
  | 114 => ⟨S4x1, .f32⟩
  | 115 => ⟨S4x2048, .f32⟩
  | 116 => ⟨S_, .f32⟩
  | 117 => ⟨S4x2048, .f32⟩
  | 118 => ⟨S4x2048, .f32⟩
  | 119 => ⟨S4x2048, .f32⟩
  | 120 => ⟨S_, .f32⟩
  | 121 => ⟨S4x2048, .f32⟩
  | 122 => ⟨S4x2048, .f32⟩
  | 123 => ⟨S_, .f32⟩
  | 124 => ⟨S4x2048, .f32⟩
  | 125 => ⟨S4x2048, .f32⟩
  | 126 => ⟨S4x2048, .f32⟩
  | 127 => ⟨S4x2046, .f32⟩
  | _ => ⟨S4x2048x1024, .f32⟩

abbrev hbmTy0_2 (i : Nat) : BufTy := match i % 128 with
  | 0 => ⟨S4x2, .f32⟩
  | 1 => ⟨S4x2048, .f32⟩
  | 2 => ⟨S_, .f32⟩
  | 3 => ⟨S4x2048, .f32⟩
  | 4 => ⟨S4x2048, .f32⟩
  | 5 => ⟨S4x2048, .f32⟩
  | 6 => ⟨S_, .f32⟩
  | 7 => ⟨S4x2048, .f32⟩
  | 8 => ⟨S4x2048, .f32⟩
  | 9 => ⟨S_, .f32⟩
  | 10 => ⟨S4x2048, .f32⟩
  | 11 => ⟨S4x2048, .f32⟩
  | 12 => ⟨S4x2048, .f32⟩
  | 13 => ⟨S_, .i32⟩
  | 14 => ⟨S1, .i32⟩
  | 15 => ⟨S_, .f32⟩
  | 16 => ⟨S4, .f32⟩
  | 17 => ⟨S4x2048, .f32⟩
  | 18 => ⟨S_, .f32⟩
  | 19 => ⟨S4, .f32⟩
  | 20 => ⟨S_, .f32⟩
  | 21 => ⟨S4, .f32⟩
  | 22 => ⟨S4, .f32⟩
  | 23 => ⟨S_, .f32⟩
  | 24 => ⟨S4, .f32⟩
  | 25 => ⟨S4x1, .f32⟩
  | 26 => ⟨S_, .f32⟩
  | 27 => ⟨S4x1, .f32⟩
  | 28 => ⟨S4x1, .f32⟩
  | 29 => ⟨S4x2048, .f32⟩
  | 30 => ⟨S4x2048, .f32⟩
  | 31 => ⟨S_, .f32⟩
  | 32 => ⟨S4x2048, .f32⟩
  | 33 => ⟨S4x2048, .f32⟩
  | 34 => ⟨S4x2048, .f32⟩
  | 35 => ⟨S4x2048, .f32⟩
  | 36 => ⟨S_, .f32⟩
  | 37 => ⟨S4, .f32⟩
  | 38 => ⟨S4, .f32⟩
  | 39 => ⟨S_, .f32⟩
  | 40 => ⟨S4, .f32⟩
  | 41 => ⟨S4x1, .f32⟩
  | 42 => ⟨S_, .f32⟩
  | 43 => ⟨S4x1, .f32⟩
  | 44 => ⟨S4x1, .f32⟩
  | 45 => ⟨S1x2048, .f32⟩
  | 46 => ⟨S4x2048, .f32⟩
  | 47 => ⟨S4x2048, .f32⟩
  | 48 => ⟨S_, .f32⟩
  | 49 => ⟨S4, .f32⟩
  | 50 => ⟨S4x1, .f32⟩
  | 51 => ⟨S4x1, .f32⟩
  | 52 => ⟨S1x2048, .f32⟩
  | 53 => ⟨S4x2048, .f32⟩
  | 54 => ⟨S4x2048, .f32⟩
  | 55 => ⟨S4x2048, .f32⟩
  | 56 => ⟨S4x2048, .f32⟩
  | 57 => ⟨S4x2048, .f32⟩
  | 58 => ⟨S_, .f32⟩
  | 59 => ⟨S4, .f32⟩
  | 60 => ⟨S4, .f32⟩
  | 61 => ⟨S4, .f32⟩
  | 62 => ⟨S_, .f32⟩
  | 63 => ⟨S4, .f32⟩
  | 64 => ⟨S4, .f32⟩
  | 65 => ⟨S4, .f32⟩
  | 66 => ⟨S4x1x2048, .f32⟩
  | 67 => ⟨S4x2048x1, .f32⟩
  | 68 => ⟨S4x2048x2048, .f32⟩
  | 69 => ⟨S4x2048x2048, .f32⟩
  | 70 => ⟨S4x2048x2048, .f32⟩
  | 71 => ⟨S4x2048x2048, .f32⟩
  | 72 => ⟨S_, .f32⟩
  | 73 => ⟨S4, .f32⟩
  | 74 => ⟨S_, .f32⟩
  | 75 => ⟨S4, .f32⟩
  | 76 => ⟨S_, .f32⟩
  | 77 => ⟨S4, .f32⟩
  | 78 => ⟨S4, .f32⟩
  | 79 => ⟨S4, .f32⟩
  | 80 => ⟨S4, .f32⟩
  | 81 => ⟨S4x1, .f32⟩
  | 82 => ⟨S4x1, .f32⟩
  | 83 => ⟨S4x1, .f32⟩
  | 84 => ⟨S4x1, .f32⟩
  | 85 => ⟨S4x4, .f32⟩
  | 86 => ⟨S4x132, .f32⟩
  | 87 => ⟨S132x128, .f32⟩
  | 88 => ⟨S4x128, .f32⟩
  | 89 => ⟨S1x128, .f32⟩
  | 90 => ⟨S4x128, .f32⟩
  | 91 => ⟨S4x128, .f32⟩
  | 92 => ⟨S4x128, .f32⟩
  | 93 => ⟨S4x2048, .f32⟩
  | 94 => ⟨S4x1x2048, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_cst_7 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call1_v0 : Ref sig .tc := ⟨.hbm, 86, rfl⟩
abbrev main_call1_v1 : Ref sig .tc := ⟨.hbm, 87, rfl⟩
abbrev main_v57 : Ref sig .tc := ⟨.hbm, 88, rfl⟩
abbrev main_cst_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_15 : Ref sig .tc := ⟨.hbm, 93, rfl⟩
abbrev main_v61 : Ref sig .tc := ⟨.hbm, 94, rfl⟩
abbrev main_v62 : Ref sig .tc := ⟨.hbm, 95, rfl⟩
abbrev main_cst_16 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_call2_v0 : Ref sig .tc := ⟨.hbm, 100, rfl⟩
abbrev main_call2_v1 : Ref sig .tc := ⟨.hbm, 101, rfl⟩
abbrev main_v66 : Ref sig .tc := ⟨.hbm, 102, rfl⟩
abbrev main_cst_17 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_18 : Ref sig .tc := ⟨.hbm, 107, rfl⟩
abbrev main_v70 : Ref sig .tc := ⟨.hbm, 108, rfl⟩
abbrev main_v71 : Ref sig .tc := ⟨.hbm, 109, rfl⟩
abbrev main_cst_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c : Ref sig .tc := ⟨.hbm, 114, rfl⟩
abbrev main_v75 : Ref sig .tc := ⟨.hbm, 115, rfl⟩
abbrev main_cst_20 : Ref sig .tc := ⟨.hbm, 116, rfl⟩
abbrev main_v76 : Ref sig .tc := ⟨.hbm, 117, rfl⟩
abbrev main_v77 : Ref sig .tc := ⟨.hbm, 118, rfl⟩
abbrev main_cst_21 : Ref sig .tc := ⟨.hbm, 119, rfl⟩
abbrev main_v78 : Ref sig .tc := ⟨.hbm, 120, rfl⟩
abbrev main_cst_22 : Ref sig .tc := ⟨.hbm, 121, rfl⟩
abbrev main_v79 : Ref sig .tc := ⟨.hbm, 122, rfl⟩
abbrev main_v80 : Ref sig .tc := ⟨.hbm, 123, rfl⟩
abbrev main_cst_23 : Ref sig .tc := ⟨.hbm, 124, rfl⟩
abbrev main_v81 : Ref sig .tc := ⟨.hbm, 125, rfl⟩
abbrev main_v82 : Ref sig .tc := ⟨.hbm, 126, rfl⟩
abbrev main_cst_24 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_25 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_26 : Ref sig .tc := ⟨.hbm, 137, rfl⟩
abbrev main_v91 : Ref sig .tc := ⟨.hbm, 138, rfl⟩
abbrev main_v92 : Ref sig .tc := ⟨.hbm, 139, rfl⟩
abbrev main_cst_27 : Ref sig .tc := ⟨.hbm, 140, rfl⟩
abbrev main_v93 : Ref sig .tc := ⟨.hbm, 141, rfl⟩
abbrev main_v94 : Ref sig .tc := ⟨.hbm, 142, rfl⟩
abbrev main_cst_28 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_29 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_30 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_31 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_32 : Ref sig .tc := ⟨.hbm, 173, rfl⟩
abbrev main_v121 : Ref sig .tc := ⟨.hbm, 174, rfl⟩
abbrev main_cst_33 : Ref sig .tc := ⟨.hbm, 175, rfl⟩
abbrev main_v122 : Ref sig .tc := ⟨.hbm, 176, rfl⟩
abbrev main_cst_34 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_35 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_36 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_37 : Ref sig .tc := ⟨.hbm, 211, rfl⟩
abbrev main_cst_38 : Ref sig .tc := ⟨.hbm, 212, rfl⟩
abbrev main_call3_v0 : Ref sig .tc := ⟨.hbm, 213, rfl⟩
abbrev main_call3_v1 : Ref sig .tc := ⟨.hbm, 214, rfl⟩
abbrev main_call3_v2 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_39 : Ref sig .tc := ⟨.hbm, 221, rfl⟩
abbrev main_v159 : Ref sig .tc := ⟨.hbm, 222, rfl⟩
abbrev main_v160 : Ref sig .tc := ⟨.hbm, 223, rfl⟩
abbrev main_cst_40 : Ref sig .tc := ⟨.hbm, 224, rfl⟩
abbrev main_v161 : Ref sig .tc := ⟨.hbm, 225, rfl⟩
abbrev main_v162 : Ref sig .tc := ⟨.hbm, 226, rfl⟩
abbrev main_cst_41 : Ref sig .tc := ⟨.hbm, 227, rfl⟩
abbrev main_v163 : Ref sig .tc := ⟨.hbm, 228, rfl⟩
abbrev main_v164 : Ref sig .tc := ⟨.hbm, 229, rfl⟩
abbrev main_cst_42 : Ref sig .tc := ⟨.hbm, 230, rfl⟩
abbrev main_v165 : Ref sig .tc := ⟨.hbm, 231, rfl⟩
abbrev main_v166 : Ref sig .tc := ⟨.hbm, 232, rfl⟩
abbrev main_cst_43 : Ref sig .tc := ⟨.hbm, 233, rfl⟩
abbrev main_v167 : Ref sig .tc := ⟨.hbm, 234, rfl⟩
abbrev main_v168 : Ref sig .tc := ⟨.hbm, 235, rfl⟩
abbrev main_cst_44 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_call4_v0 : Ref sig .tc := ⟨.hbm, 241, rfl⟩
abbrev main_call4_v1 : Ref sig .tc := ⟨.hbm, 242, rfl⟩
abbrev main_v173 : Ref sig .tc := ⟨.hbm, 243, rfl⟩
abbrev main_cst_45 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_cst_46 : Ref sig .tc := ⟨.hbm, 248, rfl⟩
abbrev main_v177 : Ref sig .tc := ⟨.hbm, 249, rfl⟩
abbrev main_v178 : Ref sig .tc := ⟨.hbm, 250, rfl⟩
abbrev main_cst_47 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_call5_v0 : Ref sig .tc := ⟨.hbm, 255, rfl⟩
abbrev main_call5_v1 : Ref sig .tc := ⟨.hbm, 256, rfl⟩
abbrev main_v182 : Ref sig .tc := ⟨.hbm, 257, rfl⟩
abbrev main_cst_48 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_cst_49 : Ref sig .tc := ⟨.hbm, 262, rfl⟩
abbrev main_v186 : Ref sig .tc := ⟨.hbm, 263, rfl⟩
abbrev main_v187 : Ref sig .tc := ⟨.hbm, 264, rfl⟩
abbrev main_cst_50 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_c_51 : Ref sig .tc := ⟨.hbm, 269, rfl⟩
abbrev main_v191 : Ref sig .tc := ⟨.hbm, 270, rfl⟩
abbrev main_cst_52 : Ref sig .tc := ⟨.hbm, 271, rfl⟩
abbrev main_v192 : Ref sig .tc := ⟨.hbm, 272, rfl⟩
abbrev main_v193 : Ref sig .tc := ⟨.hbm, 273, rfl⟩
abbrev main_cst_53 : Ref sig .tc := ⟨.hbm, 274, rfl⟩
abbrev main_v194 : Ref sig .tc := ⟨.hbm, 275, rfl⟩
abbrev main_cst_54 : Ref sig .tc := ⟨.hbm, 276, rfl⟩
abbrev main_v195 : Ref sig .tc := ⟨.hbm, 277, rfl⟩
abbrev main_v196 : Ref sig .tc := ⟨.hbm, 278, rfl⟩
abbrev main_cst_55 : Ref sig .tc := ⟨.hbm, 279, rfl⟩
abbrev main_v197 : Ref sig .tc := ⟨.hbm, 280, rfl⟩
abbrev main_v198 : Ref sig .tc := ⟨.hbm, 281, rfl⟩
abbrev main_cst_56 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_cst_57 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_cst_58 : Ref sig .tc := ⟨.hbm, 292, rfl⟩
abbrev main_v207 : Ref sig .tc := ⟨.hbm, 293, rfl⟩
abbrev main_v208 : Ref sig .tc := ⟨.hbm, 294, rfl⟩
abbrev main_cst_59 : Ref sig .tc := ⟨.hbm, 295, rfl⟩
abbrev main_v209 : Ref sig .tc := ⟨.hbm, 296, rfl⟩
abbrev main_v210 : Ref sig .tc := ⟨.hbm, 297, rfl⟩
abbrev main_cst_60 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_cst_61 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_cst_62 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_cst_63 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_cst_64 : Ref sig .tc := ⟨.hbm, 328, rfl⟩
abbrev main_v237 : Ref sig .tc := ⟨.hbm, 329, rfl⟩
abbrev main_cst_65 : Ref sig .tc := ⟨.hbm, 330, rfl⟩
abbrev main_v238 : Ref sig .tc := ⟨.hbm, 331, rfl⟩
abbrev main_cst_66 : Ref sig .tc := ⟨.hbm, 332, rfl⟩
abbrev main_v239 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩

abbrev nD : Nat := 1
abbrev τ : Topo := Topo.v7x

variable {F : FTy → Type} [FloatOps F]
-- ==== Proof.Spec.lean ====
/-
  The router as a function of extended reals, for one batch: arrays are functions of their coordinates, no shapes and no
  program. Both programs' values are read down to these definitions (Proof/KernelValue.lean, Proof/RefValue.lean).
-/
module

public import Idealize.ShloMosaic.Lib.Pointwise
public import Idealize.ShloMosaic.Lib.IdealHost

@[expose] public section

noncomputable section

namespace Cert.Router

open Idealize.ShloMosaic

/-- The small constant: the real that the binary32 word nearest to one millionth denotes. -/
def eps : EReal := ((8796093 / 8796093022208 : ℝ) : EReal)

/-- The word of the small constant denotes `eps`. -/
theorem ofBits_eps : Ideal.ofBits .f32 0x358637BD#32 = eps := by
  unfold eps
  simp [Ideal.ofBits, Ideal.ieee, -EReal.coe_mul]; norm_num

/-- The word `0x40000000` denotes two. -/
theorem ofBits_two : Ideal.ofBits .f32 0x40000000#32 = ((2 : ℝ) : EReal) := by
  simp [Ideal.ofBits, Ideal.ieee, -EReal.coe_mul]; norm_num

/-- The word `0x43000000` denotes 128. -/
theorem ofBits_128 : Ideal.ofBits .f32 0x43000000#32 = ((128 : ℝ) : EReal) := by
  simp [Ideal.ofBits, Ideal.ieee, -EReal.coe_mul]; norm_num

/-- The word of `8.0`; what it denotes is never used. -/
abbrev c8 : EReal := Ideal.ofBits .f32 0x41000000#32
/-- The word of `2048.0`. -/
abbrev c2048 : EReal := Ideal.ofBits .f32 0x45000000#32
/-- The word of `0.1`. -/
abbrev cLo : EReal := Ideal.ofBits .f32 0x3DCCCCCD#32
/-- The word of `10.0`. -/
abbrev cHi : EReal := Ideal.ofBits .f32 0x41200000#32
/-- The word of `2.0`. -/
abbrev c2 : EReal := Ideal.ofBits .f32 0x40000000#32
/-- The word of `128.0`. -/
abbrev c128 : EReal := Ideal.ofBits .f32 0x43000000#32

/-! ## The encoder and the pairwise distances -/

/-- The encoded tokens: the projection of the inputs plus the bias. -/
def emb (x : Fin 2048 → Fin 1024 → EReal) (w : Fin 64 → Fin 1024 → EReal) (b : Fin 64 → EReal) (t : Fin 2048) (d : Fin 64) : EReal :=
  (∑ k, x t k * w d k) + b d

/-- A token's squared norm. -/
def sqNorm (u : Fin 2048 → Fin 64 → EReal) (t : Fin 2048) : EReal := ∑ d, u t d * u t d

/-- The distance of two tokens by their Gram matrix, the small constant under the root. -/
def dist (u : Fin 2048 → Fin 64 → EReal) (i j : Fin 2048) : EReal :=
  Ideal.sqrt (max (sqNorm u i + sqNorm u j - c2 * ∑ d, u i d * u j d) 0 + eps)

/-- The squared distance in the kernel's form: the small constant added to one norm first, and the maximum taken with it. -/
def kd2 (u : Fin 2048 → Fin 64 → EReal) (i j : Fin 2048) : EReal :=
  max (sqNorm u i + (sqNorm u j + eps) - ∑ d, (u i d + u i d) * u j d) eps

/-- The distance in the kernel's form: the squared distance times its reciprocal root. -/
def kdist (u : Fin 2048 → Fin 64 → EReal) (i j : Fin 2048) : EReal := kd2 u i j * Ideal.rsqrt (kd2 u i j)

/-! ## Scores and the selector -/

/-- The clipped temperature. -/
def temp (lt : EReal) : EReal := min cHi (max cLo (Ideal.exp lt))

/-- The query of a memory vector. -/
def query (m : Fin 128 → EReal) (wq : Fin 64 → Fin 128 → EReal) (a : Fin 64) : EReal := ∑ k, m k * wq a k

/-- The tokens' keys. -/
def key (u : Fin 2048 → Fin 64 → EReal) (wk : Fin 64 → Fin 64 → EReal) (t : Fin 2048) (a : Fin 64) : EReal := ∑ d, u t d * wk a d

/-- A token's score: query times key over eight, plus the position's bias, less what was already selected, over the temperature. -/
def score (q : Fin 64 → EReal) (k : Fin 2048 → Fin 64 → EReal) (bp prev : Fin 2048 → EReal) (τ : EReal) (t : Fin 2048) : EReal :=
  Ideal.div (Ideal.div (∑ a, q a * k t a) c8 + bp t - prev t) τ

/-- The values scaled so that their sum is at most 128. -/
def budget (y : Fin 2048 → EReal) (t : Fin 2048) : EReal := y t * min (Ideal.div c128 (max (∑ k, y k) eps)) 1

/-- The values read `d` positions ahead, around the end. -/
def ahead (d : ℕ) (y : Fin 2048 → EReal) (t : Fin 2048) : EReal := y ⟨(t.val + d) % 2048, Nat.mod_lt _ (by norm_num)⟩

/-- The values damped by their neighbours `d` positions ahead. -/
def damp (d : ℕ) (y : Fin 2048 → EReal) (t : Fin 2048) : EReal := y t * min (Ideal.div c2 (1 + y t + ahead d y t)) 1

/-- The values with position zero cleared. -/
def clear0 (y : Fin 2048 → EReal) (t : Fin 2048) : EReal := if t.val = 0 then 0 else y t

/-- The selector: the logistic of the scores, budgeted, damped twice, position zero cleared. -/
def pick (s : Fin 2048 → EReal) : Fin 2048 → EReal := clear0 (damp 2 (damp 1 (budget fun t => Ideal.logistic (s t))))

/-! ## The statistics and the memory's update -/

/-- The total weight, at least the small constant. -/
def total (y : Fin 2048 → EReal) : EReal := max (∑ t, y t) eps

/-- The mean selection. -/
def coverage (y : Fin 2048 → EReal) : EReal := Ideal.div (∑ t, y t) c2048

/-- The entropy of the normalized selection. -/
def entropy (y : Fin 2048 → EReal) : EReal :=
  -∑ t, Ideal.div (y t) (total y) * Ideal.log (max (Ideal.div (y t) (total y)) eps)

/-- A position as an extended real. -/
def pos (t : Fin 2048) : EReal := FloatOps.sitofp (F := Ideal) .f32 (BitVec.ofNat 32 t.val)

/-- A position less the weighted mean position. -/
def centred (y : Fin 2048 → EReal) (t : Fin 2048) : EReal := pos t - Ideal.div (∑ k, y k * pos k) (total y)

/-- The weighted standard deviation of the positions. -/
def spacing (y : Fin 2048 → EReal) : EReal :=
  Ideal.sqrt (max (Ideal.div (∑ t, y t * (centred y t * centred y t)) (total y)) eps)

/-- The mean pairwise distance of the selection, for a table of distances. -/
def compactness (y : Fin 2048 → EReal) (D : Fin 2048 → Fin 2048 → EReal) : EReal :=
  Ideal.div (∑ i, ∑ j, y j * y i * D i j) (total y * total y)

/-- The memory vector followed by the four statistics. -/
def joined (m : Fin 128 → EReal) (s0 s1 s2 s3 : EReal) (k : Fin 132) : EReal :=
  if h : k.val < 128 then m ⟨k.val, h⟩
  else if k.val = 128 then s0 else if k.val = 129 then s1 else if k.val = 130 then s2 else s3

/-- The memory after a stage. -/
def memory (v : Fin 132 → EReal) (wm : Fin 128 → Fin 132 → EReal) (bm : Fin 128 → EReal) (a : Fin 128) : EReal :=
  Ideal.tanh ((∑ k, v k * wm a k) + bm a)

/-- What the first stage selects. -/
def first (u : Fin 2048 → Fin 64 → EReal) (wq : Fin 64 → Fin 128 → EReal) (wk : Fin 64 → Fin 64 → EReal) (bp : Fin 2048 → EReal)
    (lt : EReal) (m0 : Fin 128 → EReal) : Fin 2048 → EReal :=
  pick (score (query m0 wq) (key u wk) bp (fun _ => 0) (temp lt))

/-- The memory between the stages. -/
def between (u : Fin 2048 → Fin 64 → EReal) (wq : Fin 64 → Fin 128 → EReal) (wk : Fin 64 → Fin 64 → EReal) (bp : Fin 2048 → EReal)
    (lt : EReal) (m0 : Fin 128 → EReal) (wm : Fin 128 → Fin 132 → EReal) (bm : Fin 128 → EReal) : Fin 128 → EReal :=
  memory (joined m0 (coverage (first u wq wk bp lt m0)) (entropy (first u wq wk bp lt m0)) (spacing (first u wq wk bp lt m0))
    (compactness (first u wq wk bp lt m0) (dist u))) wm bm

/-- What the second stage selects: the router's result for one batch. -/
def routed (u : Fin 2048 → Fin 64 → EReal) (wq : Fin 64 → Fin 128 → EReal) (wk : Fin 64 → Fin 64 → EReal) (bp : Fin 2048 → EReal)
    (lt : EReal) (m0 : Fin 128 → EReal) (wm : Fin 128 → Fin 132 → EReal) (bm : Fin 128 → EReal) : Fin 2048 → EReal :=
  pick (score (query (between u wq wk bp lt m0 wm bm) wq) (key u wk) bp (first u wq wk bp lt m0) (temp lt))

end Cert.Router

end
-- ==== Proof.KernelSelect.lean ====
/-
  The kernel's selector read down to the router's definitions: its row operations (budget, the two dampings, position zero
  cleared), its scores and its temperature.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelValue

open Cert.KernelIdeal Cert.KernelIdeal.Gen Cert.Router Idealize.ShloMosaic

/-- The constant named `eps` denotes the router's small constant, at binary32. -/
theorem named_f32 : Named.named (F := Ideal) Cert.KernelIdeal.κ "eps" (φ := .f32) 0x358637BD#32 = eps :=
  IdealRules.named_const.ideal_named_scalar _ _ _ _ rfl

/-- The constant named `eps` denotes the router's small constant, at bfloat16. -/
theorem named_bf16 : Named.named (F := Ideal) Cert.KernelIdeal.κ "eps" (φ := .bf16) 0x3586#16 = eps :=
  IdealRules.named_const.ideal_named_scalar _ _ _ _ rfl

/-- A row of 2048 values as a function of its position. -/
def row (v : FVec Ideal S1x2048 .f32) (t : Fin 2048) : EReal := v (ix2 0 t)

/-- The row of scores over the temperature, from the scaled products, the biases, the earlier selection and the temperature. -/
def vScore (p : FVec Ideal S1x2048 .f32) (prev bp : FVec Ideal S1x2048 .f32) (τ : Ideal .f32) : FVec Ideal S1x2048 .f32 :=
  divf (subf (addf p (shapeCast S1x2048 bp shapeCasts_S1x2048_S1x2048)) (mulf (broadcast S1x2048 (Scalar.ofBits .f32 0x3F800000#32)) prev))
    (broadcast S1x2048 τ)

/-- The row budgeted. -/
def vBudget (y : FVec Ideal S1x2048 .f32) : FVec Ideal S1x2048 .f32 :=
  mulf y (broadcast S1x2048 (Scalar.minimumf (Scalar.divf (Scalar.ofBits .f32 0x43000000#32)
    (Scalar.maximumf (extractAt ![0, 0, 0] (shapeCast S1x1x1 (multiReduction .add [1, 2] S1
      (shapeCast S1x1x2048 y shapeCasts_S1x2048_S1x1x2048) 0x00000000#32 reduces_S1x1x2048_S1 (.inl rfl) rfl) shapeCasts_S1_S1x1x1)
      inpos_S1x1x1_p0_0_0) (Named.named Cert.KernelIdeal.κ "eps" 0x358637BD#32))) (Scalar.ofBits .f32 0x3F800000#32)))

/-- The row damped by a row of neighbours. -/
def vDamp (y n : FVec Ideal S1x2048 .f32) : FVec Ideal S1x2048 .f32 :=
  mulf y (minimumf (divf (broadcast S1x2048 (Scalar.ofBits .f32 0x40000000#32))
    (addf (addf (broadcast S1x2048 (Scalar.ofBits .f32 0x3F800000#32)) y) n)) (broadcast S1x2048 (Scalar.ofBits .f32 0x3F800000#32)))

/-- The row read one position ahead, around the end. -/
def vAhead1 (y : FVec Ideal S1x2048 .f32) : FVec Ideal S1x2048 .f32 :=
  concatenate S1x2048 1 [⟨S1x2047, extractStridedSlice S1x2047 ![0, 1] y slices_S1x2048_o0_1_S1x2047⟩,
    ⟨S1x1, extractStridedSlice S1x1 ![0, 0] y slices_S1x2048_o0_0_S1x1⟩] concatenates_S1x2047_S1x1_S1x2048_d1

/-- The row read two positions ahead, around the end. -/
def vAhead2 (y : FVec Ideal S1x2048 .f32) : FVec Ideal S1x2048 .f32 :=
  concatenate S1x2048 1 [⟨S1x2046, extractStridedSlice S1x2046 ![0, 2] y slices_S1x2048_o0_2_S1x2046⟩,
    ⟨S1x2, extractStridedSlice S1x2 ![0, 0] y slices_S1x2048_o0_0_S1x2⟩] concatenates_S1x2046_S1x2_S1x2048_d1

/-- Budget and the two dampings, in order. -/
def vShape (y : FVec Ideal S1x2048 .f32) : FVec Ideal S1x2048 .f32 :=
  vDamp (vDamp (vBudget y) (vAhead1 (vBudget y))) (vAhead2 (vDamp (vBudget y) (vAhead1 (vBudget y))))

/-- The budgeted row is the budget of the row. -/
theorem row_vBudget (y : FVec Ideal S1x2048 .f32) : row (vBudget y) = budget (row y) := by
  funext t
  unfold row budget
  pointwise [vBudget, named_f32]
  rw [Fin.sum_univ_one]

/-- A row damped by a row of neighbours that is the row read `d` ahead is the damping of the row. -/
theorem row_vDamp (d : ℕ) (y n : FVec Ideal S1x2048 .f32) (h : row n = ahead d (row y)) : row (vDamp y n) = damp d (row y) := by
  funext t
  unfold damp
  rw [← h]
  unfold row
  pointwise [vDamp]

/-- The joined slices that begin one position in read the row one ahead, around the end. -/
theorem row_vAhead1 (y : FVec Ideal S1x2048 .f32) : row (vAhead1 y) = ahead 1 (row y) := by
  funext t
  unfold row ahead
  pointwise [vAhead1]
  have ht := t.isLt
  split
  · next h => exact congrArg (fun k => y (ix2 0 k)) (Fin.ext (by show 1 + t.val = (t.val + 1) % 2048; omega))
  · next h => exact congrArg (fun k => y (ix2 0 k)) (Fin.ext (by show t.val - 2047 = (t.val + 1) % 2048; omega))

/-- The joined slices that begin two positions in read the row two ahead, around the end. -/
theorem row_vAhead2 (y : FVec Ideal S1x2048 .f32) : row (vAhead2 y) = ahead 2 (row y) := by
  funext t
  unfold row ahead
  pointwise [vAhead2]
  have ht := t.isLt
  split
  · next h => exact congrArg (fun k => y (ix2 0 k)) (Fin.ext (by show 2 + t.val = (t.val + 2) % 2048; omega))
  · next h => exact congrArg (fun k => y (ix2 0 k)) (Fin.ext (by show t.val - 2046 = (t.val + 2) % 2048; omega))

/-- Budget and the two dampings of a row, as the router defines them. -/
theorem row_vShape (y : FVec Ideal S1x2048 .f32) : row (vShape y) = damp 2 (damp 1 (budget (row y))) := by
  unfold vShape
  rw [row_vDamp 2 _ _ (row_vAhead2 _), row_vDamp 1 _ _ (row_vAhead1 _), row_vBudget]

/-- The logistic of the row of scores, at a position: of the products plus the bias less the earlier selection, over the temperature. -/
theorem row_vScore (p prev bp : FVec Ideal S1x2048 .f32) (τ : Ideal .f32) (t : Fin 2048) :
    row (logistic (vScore p prev bp τ)) t = Ideal.logistic (Ideal.div (row p t + row bp t - row prev t) τ) := by
  unfold row
  pointwise [vScore]

/-- The comparison of a position's word with the word zero. -/
theorem word_eq_zero (t : Fin 2048) : IntOp.cmpi .eq (BitVec.ofNat 32 t.val) 0#32 = if t.val = 0 then 1#1 else 0#1 := by
  have ht := t.isLt
  have e : (BitVec.ofNat 32 t.val = 0#32) ↔ t.val = 0 := by
    rw [← BitVec.toNat_inj, BitVec.toNat_ofNat, BitVec.toNat_ofNat]
    omega
  by_cases h : t.val = 0
  · rw [if_pos h, h]; rfl
  · rw [if_neg h]
    show BitVec.ofBool (BitVec.ofNat 32 t.val == 0#32) = 0#1
    rw [beq_false_of_ne fun q => h (e.1 q)]
    rfl

/-- Selecting zero where the position is zero clears position zero of the row. -/
theorem row_pay14 (y : FVec Ideal S1x2048 .f32) :
    row (k0_pay14 (F := Ideal) (iota .tc S1x2048 32 [1] iota_S1x2048_d1_w32) y) = clear0 (row y) := by
  funext t
  unfold row clear0
  pointwise [k0_pay14]
  rw [word_eq_zero]
  split <;> rfl

/-- The first stage's row before position zero is cleared, as the logistic of the scores, budgeted and damped. -/
theorem pay13_eq (v9 : FVec Ideal S2048x64 .f32) (v26 : Ideal .f32) (v31 : FVec Ideal S1x2048 .f32) (v33 : FVec Ideal S1x64 .f32)
    (v34 : Vec Ideal S64x64 .f32) (v39 : Vec Ideal S1x2048 .f32) :
    k0_pay13 v9 v26 v31 v33 v34 v39
      = vShape (logistic (vScore (divf (matmul dot_S1x64_S2048x64_S1x2048_1_1_0_0_n_n none v33
          (matmul (φ₁ := .f32) (φ₂ := .f32) dot_S2048x64_S64x64_S2048x64_1_1_0_0_n_n none v9 v34 (constant S2048x64 .f32 0x00000000#32)) (constant S1x2048 .f32 0x00000000#32))
          (broadcast S1x2048 (Scalar.ofBits .f32 0x41000000#32))) v31 v39 v26)) := rfl

/-- The second stage's row, as the logistic of the scores, budgeted, damped and cleared at position zero. -/
theorem pay34_eq (v26 : Ideal .f32) (v27 : IVec S1x2048 32) (v201 v208 : FVec Ideal S1x2048 .f32) (v209 : Vec Ideal S1x2048 .f32) :
    k0_pay34 v26 v27 v201 v208 v209 = k0_pay14 (F := Ideal) v27 (vShape (logistic (vScore v208 v201 v209 v26))) := rfl

end Cert.KernelValue

end
-- ==== Proof.Algebra.lean ====
/-
  What the router's definitions need of the extended reals: finite tokens have finite, symmetric distances, equal in the
  two forms; a selection lies between zero and one; and the selection-weighted sum of a symmetric table of distances is
  the sum over the tiles of its upper half, the off-diagonal tile counted twice.
-/
module

public import proofs.«01_k».proof.Proof.Spec

@[expose] public section

noncomputable section

namespace Cert.Router

open Idealize.ShloMosaic

/-- A finite sum of reals, summed as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square root's reciprocal times a positive real is its square root. -/
theorem mul_rsqrt (r : ℝ) (hr : 0 < r) : (r : EReal) * Ideal.rsqrt (r : EReal) = Ideal.sqrt (r : EReal) := by
  rw [Ideal.rsqrt_coe, Ideal.sqrt_coe, if_neg hr.le.not_gt, if_neg hr.ne', if_neg hr.le.not_gt, ← EReal.coe_mul]
  refine congrArg _ ?_
  have h := Real.mul_self_sqrt hr.le
  have h0 : Real.sqrt r ≠ 0 := (Real.sqrt_pos.mpr hr).ne'
  field_simp
  nlinarith [h]

/-- The maximum of two reals, taken as extended reals. -/
theorem coe_max (a b : ℝ) : max (a : EReal) (b : EReal) = ((max a b : ℝ) : EReal) :=
  ((EReal.coe_strictMono.monotone).map_max).symm

/-- The minimum of two reals, taken as extended reals. -/
theorem coe_min (a b : ℝ) : min (a : EReal) (b : EReal) = ((min a b : ℝ) : EReal) :=
  ((EReal.coe_strictMono.monotone).map_min).symm

/-- The distance of finite tokens as a real number. -/
def realDist (u : Fin 2048 → Fin 64 → ℝ) (i j : Fin 2048) : ℝ :=
  Real.sqrt (max ((∑ d, u i d * u i d) + (∑ d, u j d * u j d) - 2 * ∑ d, u i d * u j d) 0 + 8796093 / 8796093022208)

/-- The real distance is symmetric. -/
theorem realDist_comm (u : Fin 2048 → Fin 64 → ℝ) (i j : Fin 2048) : realDist u i j = realDist u j i := by
  unfold realDist
  rw [add_comm (∑ d, u i d * u i d), Finset.sum_congr rfl fun d _ => mul_comm (u i d) (u j d)]

/-- Finite tokens: the distance is the real one. -/
theorem dist_coe (u : Fin 2048 → Fin 64 → ℝ) (i j : Fin 2048) : dist (fun t d => (u t d : EReal)) i j = (realDist u i j : EReal) := by
  unfold dist sqNorm eps realDist
  rw [show c2 = ((2 : ℝ) : EReal) from ofBits_two]
  simp only [← EReal.coe_mul, ← coe_sum, ← EReal.coe_add, ← EReal.coe_sub, ← EReal.coe_zero, coe_max]
  rw [Ideal.sqrt_coe, if_neg]
  have := le_max_right ((∑ d, u i d * u i d) + (∑ d, u j d * u j d) - 2 * ∑ d, u i d * u j d) 0
  have h2 : (0 : ℝ) < 8796093 / 8796093022208 := by norm_num
  linarith

/-- Finite tokens: the kernel's form of the distance is the same real. -/
theorem kdist_coe (u : Fin 2048 → Fin 64 → ℝ) (i j : Fin 2048) : kdist (fun t d => (u t d : EReal)) i j = (realDist u i j : EReal) := by
  have e : kd2 (fun t d => (u t d : EReal)) i j
      = ((max ((∑ d, u i d * u i d) + (∑ d, u j d * u j d) - 2 * ∑ d, u i d * u j d) 0 + 8796093 / 8796093022208 : ℝ) : EReal) := by
    unfold kd2 sqNorm eps
    simp only [← EReal.coe_mul, ← coe_sum, ← EReal.coe_add, ← EReal.coe_sub, coe_max]
    refine congrArg _ ?_
    rw [← max_add_add_right, zero_add]
    refine congrArg₂ _ ?_ rfl
    rw [Finset.mul_sum, Finset.sum_congr rfl fun d _ => show (u i d + u i d) * u j d = 2 * (u i d * u j d) by ring]
    ring
  have h2 : (0 : ℝ) < 8796093 / 8796093022208 := by norm_num
  have h3 := le_max_right ((∑ d, u i d * u i d) + (∑ d, u j d * u j d) - 2 * ∑ d, u i d * u j d) 0
  unfold kdist
  rw [e, mul_rsqrt _ (by linarith), Ideal.sqrt_coe, if_neg (by linarith)]
  rfl

/-- An extended real between zero and one. -/
def Unit01 (x : EReal) : Prop := ∃ r : ℝ, 0 ≤ r ∧ r ≤ 1 ∧ x = (r : EReal)

/-- Zero lies between zero and one. -/
theorem unit01_zero : Unit01 0 := ⟨0, le_rfl, zero_le_one, by norm_cast⟩

/-- The logistic function's values lie between zero and one. -/
theorem unit01_logistic (x : EReal) : Unit01 (Ideal.logistic x) := by
  induction x with
  | bot => exact ⟨0, le_rfl, zero_le_one, by rw [Ideal.logistic_bot]; norm_cast⟩
  | top => exact ⟨1, zero_le_one, le_rfl, by rw [Ideal.logistic_top]; norm_cast⟩
  | coe r =>
    have h : (0 : ℝ) < Real.exp (-r) := Real.exp_pos _
    refine ⟨(1 + Real.exp (-r))⁻¹, by positivity, inv_le_one_of_one_le₀ (by linarith), Ideal.logistic_coe _⟩

/-- A value between zero and one stays so under a factor that is a quotient of a nonnegative real by a positive one, capped at one. -/
theorem unit01_capped (x : EReal) (hx : Unit01 x) (p q : ℝ) (hp : 0 ≤ p) (hq : 0 < q) : Unit01 (x * min (Ideal.div (p : EReal) (q : EReal)) 1) := by
  obtain ⟨r, h0, h1, rfl⟩ := hx
  rw [Ideal.div_coe hq.ne', ← EReal.coe_mul, show (1 : EReal) = ((1 : ℝ) : EReal) by norm_cast, coe_min, ← EReal.coe_mul]
  have ha : 0 ≤ min (p * (1 / q)) 1 := le_min (by positivity) zero_le_one
  have hb : min (p * (1 / q)) 1 ≤ 1 := min_le_right _ _
  exact ⟨_, mul_nonneg h0 ha, mul_le_one₀ h1 ha hb, rfl⟩

/-- Budgeting keeps values between zero and one. -/
theorem unit01_budget (y : Fin 2048 → EReal) (hy : ∀ t, Unit01 (y t)) (t : Fin 2048) : Unit01 (budget y t) := by
  have hc : ∀ t, ∃ r : ℝ, 0 ≤ r ∧ r ≤ 1 ∧ y t = (r : EReal) := hy
  choose r _ _ e using hc
  have e2 : max (∑ k, y k) eps = ((max (∑ k, r k) (8796093 / 8796093022208) : ℝ) : EReal) := by
    unfold eps
    rw [Finset.sum_congr rfl fun k _ => e k, ← coe_sum, coe_max]
  unfold budget
  rw [e2, show c128 = ((128 : ℝ) : EReal) from ofBits_128]
  exact unit01_capped _ (hy t) _ _ (by norm_num) (lt_of_lt_of_le (by norm_num) (le_max_right _ _))

/-- Damping keeps values between zero and one. -/
theorem unit01_damp (d : ℕ) (y : Fin 2048 → EReal) (hy : ∀ t, Unit01 (y t)) (t : Fin 2048) : Unit01 (damp d y t) := by
  unfold damp ahead
  obtain ⟨r, h0, _, e⟩ := hy t
  obtain ⟨s, g0, _, e'⟩ := hy ⟨(t.val + d) % 2048, Nat.mod_lt _ (by norm_num)⟩
  have e2 : 1 + y t + y ⟨(t.val + d) % 2048, Nat.mod_lt _ (by norm_num)⟩ = ((1 + r + s : ℝ) : EReal) := by
    rw [e, e', EReal.coe_add, EReal.coe_add]; norm_cast
  rw [e2, show c2 = ((2 : ℝ) : EReal) from ofBits_two]
  exact unit01_capped _ (hy t) _ _ (by norm_num) (by linarith)

/-- A selection's values lie between zero and one. -/
theorem unit01_pick (s : Fin 2048 → EReal) (t : Fin 2048) : Unit01 (pick s t) := by
  unfold pick clear0
  split
  · exact unit01_zero
  · exact unit01_damp 2 _ (unit01_damp 1 _ (unit01_budget _ fun t => unit01_logistic _)) t

/-- A sum over 2048 positions is the sum over the first 1024 and the sum over the last 1024. -/
theorem sum_halves (f : Fin 2048 → ℝ) :
    ∑ i, f i = (∑ i : Fin 1024, f ⟨i.val, by omega⟩) + ∑ i : Fin 1024, f ⟨1024 + i.val, by omega⟩ := by
  exact Fin.sum_univ_add (a := 1024) (b := 1024) f

/-- The tile of the weighted sum that begins at row `a` and column `b`, rows summed first. -/
def tile (y : Fin 2048 → EReal) (D : Fin 2048 → Fin 2048 → EReal) (a b : ℕ) (ha : a ≤ 1024) (hb : b ≤ 1024) : EReal :=
  ∑ j : Fin 1024, (∑ i : Fin 1024, y ⟨a + i.val, by omega⟩ * D ⟨a + i.val, by omega⟩ ⟨b + j.val, by omega⟩) * y ⟨b + j.val, by omega⟩

/-- The weighted sum of a symmetric real table is the two diagonal tiles and twice the one above the diagonal. -/
theorem tiles_eq (y : Fin 2048 → ℝ) (D : Fin 2048 → Fin 2048 → ℝ) (hD : ∀ i j, D i j = D j i) :
    tile (fun t => (y t : EReal)) (fun i j => (D i j : EReal)) 0 0 (by omega) (by omega)
        + c2 * tile (fun t => (y t : EReal)) (fun i j => (D i j : EReal)) 0 1024 (by omega) (by omega)
        + tile (fun t => (y t : EReal)) (fun i j => (D i j : EReal)) 1024 1024 (by omega) (by omega)
      = ∑ i, ∑ j, (y j : EReal) * (y i : EReal) * (D i j : EReal) := by
  unfold tile
  rw [show c2 = ((2 : ℝ) : EReal) from ofBits_two]
  simp only [← EReal.coe_mul, ← coe_sum, ← EReal.coe_add]
  refine congrArg _ ?_
  rw [sum_halves]
  simp only [sum_halves (fun j => y j * _ * _), Finset.sum_add_distrib, Finset.sum_mul, zero_add]
  have e1 : ∀ a b : Fin 2048, y a * y b * D b a = y a * D a b * y b := fun a b => by rw [hD b a]; ring
  have e2 : ∀ a b : Fin 2048, y a * y b * D b a = y b * D b a * y a := fun a b => by ring
  have h1 : ∀ (p q : Fin 1024 → Fin 2048), ∑ x, ∑ i, y (p i) * y (q x) * D (q x) (p i) = ∑ x, ∑ i, y (p i) * D (p i) (q x) * y (q x) :=
    fun p q => Finset.sum_congr rfl fun x _ => Finset.sum_congr rfl fun i _ => e1 (p i) (q x)
  have h2 : ∀ (p q : Fin 1024 → Fin 2048), ∑ x, ∑ i, y (p i) * y (q x) * D (q x) (p i) = ∑ x, ∑ i, y (q i) * D (q i) (p x) * y (p x) :=
    fun p q => Eq.trans (Finset.sum_congr rfl fun x _ => Finset.sum_congr rfl fun i _ => e2 (p i) (q x)) Finset.sum_comm
  have g1 := h1 (fun i => ⟨i.val, by omega⟩) (fun i => ⟨i.val, by omega⟩)
  have g2 := h2 (fun i => ⟨1024 + i.val, by omega⟩) (fun i => ⟨i.val, by omega⟩)
  have g3 := h1 (fun i => ⟨i.val, by omega⟩) (fun i => ⟨1024 + i.val, by omega⟩)
  have g4 := h1 (fun i => ⟨1024 + i.val, by omega⟩) (fun i => ⟨1024 + i.val, by omega⟩)
  rw [g1, g2, g3, g4]
  ring

end Cert.Router

end
-- ==== Proof.KernelStats.lean ====
/-
  The kernel's encoder, distances, statistics and memory read down to the router's definitions.
-/
module

public import proofs.«01_k».proof.Proof.KernelSelect
public import proofs.«01_k».proof.Proof.Algebra

@[expose] public section

set_option maxRecDepth 16384

noncomputable section

namespace Cert.KernelValue

open Cert.KernelIdeal Cert.KernelIdeal.Gen Cert.Router Idealize.ShloMosaic

/-- The row operand of the position comparisons. -/
abbrev places : IVec S1x2048 32 := iota .tc S1x2048 32 [1] iota_S1x2048_d1_w32

/-! ## The encoder -/

/-- The encoded tokens of a block, read at a token and a feature. -/
theorem pay2_apply (x : Vec Ideal S1x2048x1024 .f32) (w : Vec Ideal S64x1024 .f32) (b : Vec Ideal S1x64 .f32) (t : Fin 2048) (d : Fin 64) :
    k0_pay2 x w b (ix2 t d) = emb (fun t k => x (ix3 0 t k)) (fun d k => w (ix2 d k)) (fun d => b (ix2 0 d)) t d := by
  unfold emb
  pointwise [k0_pay2]

/-- The encoded tokens of a block as a function of token and feature. -/
def kemb (x : Vec Ideal S1x2048x1024 .f32) (w : Vec Ideal S64x1024 .f32) (b : Vec Ideal S1x64 .f32) (t : Fin 2048) (d : Fin 64) : EReal :=
  k0_pay2 x w b (ix2 t d)

/-- The encoded tokens narrowed are the encoded tokens. -/
theorem pay4_apply (x : Vec Ideal S1x2048x1024 .f32) (w : Vec Ideal S64x1024 .f32) (b : Vec Ideal S1x64 .f32) (t : Fin 2048) (d : Fin 64) :
    k0_pay4 x w b (ix2 t d) = kemb x w b t d := by
  unfold kemb
  pointwise [k0_pay4]

/-- The doubled encoded tokens narrowed are twice the encoded tokens. -/
theorem pay5_apply (x : Vec Ideal S1x2048x1024 .f32) (w : Vec Ideal S64x1024 .f32) (b : Vec Ideal S1x64 .f32) (t : Fin 2048) (d : Fin 64) :
    k0_pay5 x w b (ix2 t d) = kemb x w b t d + kemb x w b t d := by
  unfold kemb
  pointwise [k0_pay5]

/-- The column of squared norms. -/
theorem pay6_apply (x : Vec Ideal S1x2048x1024 .f32) (w : Vec Ideal S64x1024 .f32) (b : Vec Ideal S1x64 .f32) (t : Fin 2048) :
    k0_pay6 x w b (ix2 t 0) = sqNorm (kemb x w b) t := by
  unfold sqNorm kemb
  pointwise [k0_pay6, k0_pay3]

/-- The row of squared norms, the small constant added. -/
theorem pay7_apply (x : Vec Ideal S1x2048x1024 .f32) (w : Vec Ideal S64x1024 .f32) (b : Vec Ideal S1x64 .f32) (t : Fin 2048) :
    k0_pay7 x w b (ix2 0 t) = sqNorm (kemb x w b) t + eps := by
  unfold sqNorm kemb
  pointwise [k0_pay7, k0_pay3, named_f32]

/-! ## The three tiles of distances -/

section tiles
variable (u : Fin 2048 → Fin 64 → EReal) (v11 v13 : FVec Ideal S2048x64 .bf16) (v20 : FVec Ideal S2048x1 .bf16) (v21 : FVec Ideal S1x2048 .bf16)
  (h11 : ∀ t d, v11 (ix2 t d) = u t d) (h13 : ∀ t d, v13 (ix2 t d) = u t d + u t d)
  (h20 : ∀ t, v20 (ix2 t 0) = sqNorm u t) (h21 : ∀ t, v21 (ix2 0 t) = sqNorm u t + eps)
include h11 h13 h20 h21

/-- The upper left tile holds the distances of the first half of the tokens among themselves. -/
theorem tile00_apply (i j : Fin 1024) :
    k0_pay23 (k0_pay21 v11 v13 v20 v21) (k0_pay22 (F := Ideal)) (ix2 i j) = kdist u ⟨0 + i.val, by omega⟩ ⟨0 + j.val, by omega⟩ := by
  unfold kdist kd2
  pointwise [k0_pay23, k0_pay22, k0_pay21, named_bf16, h11, h13, h20, h21]

/-- The upper right tile holds the distances of the first half of the tokens from the second. -/
theorem tile01_apply (i j : Fin 1024) :
    k0_pay25 v11 v13 v20 v21 (ix2 i j) = kdist u ⟨0 + i.val, by omega⟩ ⟨1024 + j.val, by omega⟩ := by
  unfold kdist kd2
  pointwise [k0_pay25, named_bf16, h11, h13, h20, h21]

/-- The lower right tile holds the distances of the second half of the tokens among themselves. -/
theorem tile11_apply (i j : Fin 1024) :
    k0_pay30 v21 (k0_pay28 v11 v13) (k0_pay29 v20) (ix2 i j) = kdist u ⟨1024 + i.val, by omega⟩ ⟨1024 + j.val, by omega⟩ := by
  unfold kdist kd2
  pointwise [k0_pay30, k0_pay28, k0_pay29, named_bf16, h11, h13, h20, h21]

/-- The accumulator after the upper tiles: the start, the weighted sum of the left tile, and twice that of the right tile. -/
theorem pay27_apply (y : FVec Ideal S1x2048 .f32) (z : FVec Ideal S1x1 .f32) :
    k0_pay27 v11 v13 v20 v21 y z (k0_pay21 v11 v13 v20 v21) (k0_pay22 (F := Ideal)) (ix2 0 0)
      = z (ix2 0 0) + tile (row y) (kdist u) 0 0 (by omega) (by omega) + c2 * tile (row y) (kdist u) 0 1024 (by omega) (by omega) := by
  unfold tile row
  pointwise [k0_pay27, tile00_apply u v11 v13 v20 v21 h11 h13 h20 h21, tile01_apply u v11 v13 v20 v21 h11 h13 h20 h21]
end tiles

/-- The accumulator's last step: the tile below is added, and the quotient by the squared total taken. -/
def vCompact (v21 : FVec Ideal S1x2048 .bf16) (y : FVec Ideal S1x2048 .f32) (tw acc : FVec Ideal S1x1 .f32)
    (v169 : FVec Ideal S1024x1024 .bf16) (v170 : FVec Ideal S1024x1 .bf16) : FVec Ideal S1x1 .f32 :=
  divf (addf acc (shapeCast S1x1 (multiReduction .add [1] S1
    (mulf (matmul dot_S1x1024_S1024x1024_S1x1024_1_0_0_1_n_n none
        (truncf .bf16 (extractStridedSlice S1x1024 ![0, 1024] y slices_S1x2048_o0_1024_S1x1024) bitsLt_bf16_f32)
        (k0_pay30 v21 v169 v170) (constant S1x1024 .f32 0x00000000#32))
      (extractStridedSlice S1x1024 ![0, 1024] y slices_S1x2048_o0_1024_S1x1024)) 0x00000000#32 reduces_S1x1024_S1 (.inl rfl) rfl)
    shapeCasts_S1_S1x1)) (mulf tw tw)

/-- The memory's update as vectors. -/
def vMemory (m : FVec Ideal S1x128 .f32) (s0 s1 s2 s3 : FVec Ideal S1x1 .f32) (wm : Vec Ideal S128x132 .f32) (bm : Vec Ideal S1x128 .f32) :
    FVec Ideal S1x128 .f32 :=
  tanh (addf (matmul (φ₁ := .f32) (φ₂ := .f32) dot_S1x132_S128x132_S1x128_1_1_0_0_n_n none
    (concatenate S1x132 1 [⟨S1x128, m⟩, ⟨S1x4, concatenate S1x4 1 [⟨S1x1, s0⟩, ⟨S1x1, s1⟩, ⟨S1x1, s2⟩, ⟨S1x1, s3⟩] concatenates_S1x1_S1x1_S1x1_S1x1_S1x4_d1⟩]
      concatenates_S1x128_S1x4_S1x132_d1) wm (constant S1x128 .f32 0x00000000#32)) (shapeCast S1x128 bm shapeCasts_S1x128_S1x128))

/-- Query times keys over eight, as vectors. -/
def vProducts (q : FVec Ideal S1x64 .f32) (u : FVec Ideal S2048x64 .f32) (wk : Vec Ideal S64x64 .f32) : FVec Ideal S1x2048 .f32 :=
  divf (matmul dot_S1x64_S2048x64_S1x2048_1_1_0_0_n_n none q
    (matmul (φ₁ := .f32) (φ₂ := .f32) dot_S2048x64_S64x64_S2048x64_1_1_0_0_n_n none u wk (constant S2048x64 .f32 0x00000000#32))
    (constant S1x2048 .f32 0x00000000#32)) (broadcast S1x2048 (Scalar.ofBits .f32 0x41000000#32))

/-- A memory row's query as vectors. -/
def vQuery (m : FVec Ideal S1x128 .f32) (wq : Vec Ideal S64x128 .f32) : FVec Ideal S1x64 .f32 :=
  matmul (φ₁ := .f32) (φ₂ := .f32) dot_S1x128_S64x128_S1x64_1_1_0_0_n_n none m wq (constant S1x64 .f32 0x00000000#32)

/-- The second stage's products, as the memory's update, its query and the products with the keys. -/
theorem pay33_eq (v9 : FVec Ideal S2048x64 .f32) (v21 : FVec Ideal S1x2048 .bf16) (v30 : FVec Ideal S1x128 .f32) (v82 : FVec Ideal S1x2048 .f32)
    (v86 v88 v98 v112 v165 : FVec Ideal S1x1 .f32) (v169 : FVec Ideal S1024x1024 .bf16) (v170 : FVec Ideal S1024x1 .bf16)
    (v195 : Vec Ideal S128x132 .f32) (v197 : Vec Ideal S1x128 .f32) (v202 : Vec Ideal S64x128 .f32) (v204 : Vec Ideal S64x64 .f32) :
    k0_pay33 v9 v21 v30 v82 v86 v88 v98 v112 v165 v169 v170 v195 v197 v202 v204
      = vProducts (vQuery (vMemory v30 v86 v98 v112 (vCompact v21 v82 v88 v165 v169 v170) v195 v197) v202) v9 v204 := rfl

/-- The first stage's query is the query of the initial memory. -/
theorem pay12_eq (m : Vec Ideal S1x128 .f32) (wq : Vec Ideal S64x128 .f32) : k0_pay12 m wq = vQuery (k0_pay10 m) wq := rfl

/-- The products at a position: the sum of query times key, over eight. -/
theorem row_vProducts (q : FVec Ideal S1x64 .f32) (u : FVec Ideal S2048x64 .f32) (wk : Vec Ideal S64x64 .f32) (t : Fin 2048) :
    row (vProducts q u wk) t = Ideal.div (∑ a, q (ix2 0 a) * key (fun t d => u (ix2 t d)) (fun a d => wk (ix2 a d)) t a) c8 := by
  unfold row key
  pointwise [vProducts]

/-- A memory row's query is the router's. -/
theorem vQuery_apply (m : FVec Ideal S1x128 .f32) (wq : Vec Ideal S64x128 .f32) (a : Fin 64) :
    vQuery m wq (ix2 0 a) = query (fun k => m (ix2 0 k)) (fun a k => wq (ix2 a k)) a := by
  unfold query
  pointwise [vQuery]

/-- The initial memory is read unchanged. -/
theorem pay10_apply (m : Vec Ideal S1x128 .f32) (k : Fin 128) : k0_pay10 m (ix2 0 k) = m (ix2 0 k) := by
  pointwise [k0_pay10]

/-- The concatenation of the memory and the statistics, read at a place. -/
theorem joined_apply (m : FVec Ideal S1x128 .f32) (s0 s1 s2 s3 : FVec Ideal S1x1 .f32) (k : Fin 132) :
    concatenate S1x132 1 [⟨S1x128, m⟩, ⟨S1x4, concatenate S1x4 1 [⟨S1x1, s0⟩, ⟨S1x1, s1⟩, ⟨S1x1, s2⟩, ⟨S1x1, s3⟩] concatenates_S1x1_S1x1_S1x1_S1x1_S1x4_d1⟩]
      concatenates_S1x128_S1x4_S1x132_d1 (ix2 0 k)
      = joined (fun k => m (ix2 0 k)) (s0 (ix2 0 0)) (s1 (ix2 0 0)) (s2 (ix2 0 0)) (s3 (ix2 0 0)) k := by
  unfold joined
  pointwise
  have one : ∀ (s : FVec Ideal S1x1 .f32) (n : ℕ) (h : n < 1), s (ix2 0 ⟨n, h⟩) = s (ix2 0 0) := fun s n h =>
    congrArg (fun i => s (ix2 0 i)) (Subsingleton.elim _ _)
  simp only [one]
  split_ifs <;> first | rfl | omega

/-- The memory's update is the router's, of the memory joined with the four statistics. -/
theorem vMemory_apply (m : FVec Ideal S1x128 .f32) (s0 s1 s2 s3 : FVec Ideal S1x1 .f32) (wm : Vec Ideal S128x132 .f32) (bm : Vec Ideal S1x128 .f32)
    (a : Fin 128) :
    vMemory m s0 s1 s2 s3 wm bm (ix2 0 a)
      = memory (joined (fun k => m (ix2 0 k)) (s0 (ix2 0 0)) (s1 (ix2 0 0)) (s2 (ix2 0 0)) (s3 (ix2 0 0))) (fun a k => wm (ix2 a k))
          (fun k => bm (ix2 0 k)) a := by
  unfold memory
  simp only [← joined_apply]
  generalize hv : concatenate S1x132 1 [⟨S1x128, m⟩, ⟨S1x4, concatenate S1x4 1 [⟨S1x1, s0⟩, ⟨S1x1, s1⟩, ⟨S1x1, s2⟩, ⟨S1x1, s3⟩] concatenates_S1x1_S1x1_S1x1_S1x1_S1x4_d1⟩]
      concatenates_S1x128_S1x4_S1x132_d1 = v
  unfold vMemory
  rw [hv]
  pointwise

/-- The temperature is the router's clipped temperature. -/
theorem pay8_eq (lt : Vec Ideal S1x1 .f32) : k0_pay8 lt = temp (lt (ix2 0 0)) := by
  unfold temp
  pointwise [k0_pay8]
  rfl

/-- Before the first stage nothing is selected. -/
theorem row_pay11 : row (k0_pay11 (F := Ideal)) = fun _ => 0 := by
  funext t
  unfold row
  pointwise [k0_pay11]

/-- The earlier selections are added place by place. -/
theorem row_pay32 (a b : FVec Ideal S1x2048 .f32) (t : Fin 2048) : row (k0_pay32 a b) t = row a t + row b t := by
  unfold row
  pointwise [k0_pay32]

/-- The sum of the first selection. -/
theorem pay15_apply (y : FVec Ideal S1x2048 .f32) : k0_pay15 places y (ix2 0 0) = ∑ t, row (k0_pay14 places y) t := by
  unfold row
  pointwise [k0_pay15]

/-- The first statistic is the mean selection. -/
theorem pay16_apply (y : FVec Ideal S1x2048 .f32) : k0_pay16 places y (ix2 0 0) = coverage (row (k0_pay14 places y)) := by
  unfold coverage
  rw [← pay15_apply]
  pointwise [k0_pay16]

/-- The total weight is the router's. -/
theorem pay17_apply (y : FVec Ideal S1x2048 .f32) : k0_pay17 places y (ix2 0 0) = total (row (k0_pay14 places y)) := by
  unfold total
  rw [← pay15_apply]
  pointwise [k0_pay17, named_f32]

/-- The second statistic is the entropy. -/
theorem pay18_apply (y : FVec Ideal S1x2048 .f32) : k0_pay18 places y (ix2 0 0) = entropy (row (k0_pay14 places y)) := by
  unfold entropy
  rw [← pay17_apply]
  unfold row
  generalize h : k0_pay14 places y = z
  unfold k0_pay18
  rw [h]
  pointwise [named_f32]
  rw [zero_sub]

/-- The row of positions. -/
theorem pay9_apply (t : Fin 2048) : k0_pay9 (F := Ideal) (ix2 0 t) = pos t := by
  unfold pos
  pointwise [k0_pay9]

/-- The third statistic is the spacing. -/
theorem pay19_apply (y : FVec Ideal S1x2048 .f32) : k0_pay19 places (k0_pay9 (F := Ideal)) y (ix2 0 0) = spacing (row (k0_pay14 places y)) := by
  unfold spacing centred
  rw [← pay17_apply]
  unfold row
  generalize h : k0_pay14 places y = z
  unfold k0_pay19
  rw [h]
  pointwise [named_f32, pay9_apply]

/-- The fourth statistic: the accumulator plus the weighted sum of the lower right tile, over the squared total. -/
theorem vCompact_apply (u : Fin 2048 → Fin 64 → EReal) (v11 v13 : FVec Ideal S2048x64 .bf16) (v20 : FVec Ideal S2048x1 .bf16) (v21 : FVec Ideal S1x2048 .bf16)
    (h11 : ∀ t d, v11 (ix2 t d) = u t d) (h13 : ∀ t d, v13 (ix2 t d) = u t d + u t d)
    (h20 : ∀ t, v20 (ix2 t 0) = sqNorm u t) (h21 : ∀ t, v21 (ix2 0 t) = sqNorm u t + eps) (y : FVec Ideal S1x2048 .f32) (tw acc : FVec Ideal S1x1 .f32) :
    vCompact v21 y tw acc (k0_pay28 v11 v13) (k0_pay29 v20) (ix2 0 0)
      = Ideal.div (acc (ix2 0 0) + tile (row y) (kdist u) 1024 1024 (by omega) (by omega)) (tw (ix2 0 0) * tw (ix2 0 0)) := by
  unfold tile row
  pointwise [vCompact, tile11_apply u v11 v13 v20 v21 h11 h13 h20 h21]

end Cert.KernelValue

end
-- ==== Proof.KernelBlock.lean ====
/-
  One batch of the kernel: the value it stores, from the blocks it reads, is the router's result.
-/
module

public import proofs.«01_k».proof.Proof.KernelStats

@[expose] public section

set_option maxRecDepth 16384

noncomputable section

namespace Cert.KernelValue

open Cert.KernelIdeal Cert.KernelIdeal.Gen Cert.Router Idealize.ShloMosaic

section Block
variable (x0 : Vec Ideal S1x2048x1024 .f32) (x1 : Vec Ideal S64x1024 .f32) (x2 : Vec Ideal S1x64 .f32) (x3 : Vec Ideal S64x128 .f32)
  (x4 : Vec Ideal S64x64 .f32) (x5 : Vec Ideal S1x2048 .f32) (x6 : Vec Ideal S1x1 .f32) (x7 : Vec Ideal S1x128 .f32)
  (x8 : Vec Ideal S128x132 .f32) (x9 : Vec Ideal S1x128 .f32)

/-- The first stage's row before position zero is cleared. -/
def shaped : FVec Ideal S1x2048 .f32 := k0_pay13 (k0_pay2 x0 x1 x2) (k0_pay8 x6) (k0_pay11 (F := Ideal)) (k0_pay12 x7 x3) x4 x5

/-- The first stage's selection in the kernel. -/
def picked : FVec Ideal S1x2048 .f32 := k0_pay14 places (shaped x0 x1 x2 x3 x4 x5 x6 x7)

/-- The accumulator after the two upper tiles of distances. -/
def upper : FVec Ideal S1x1 .f32 :=
  k0_pay27 (k0_pay4 x0 x1 x2) (k0_pay5 x0 x1 x2) (k0_pay6 x0 x1 x2) (k0_pay7 x0 x1 x2) (picked x0 x1 x2 x3 x4 x5 x6 x7) (k0_pay20 (F := Ideal))
    (k0_pay21 (k0_pay4 x0 x1 x2) (k0_pay5 x0 x1 x2) (k0_pay6 x0 x1 x2) (k0_pay7 x0 x1 x2)) (k0_pay22 (F := Ideal))

/-- The second stage's products in the kernel. -/
def products2 : FVec Ideal S1x2048 .f32 :=
  k0_pay33 (k0_pay2 x0 x1 x2) (k0_pay7 x0 x1 x2) (k0_pay10 x7) (picked x0 x1 x2 x3 x4 x5 x6 x7)
    (k0_pay16 places (shaped x0 x1 x2 x3 x4 x5 x6 x7)) (k0_pay17 places (shaped x0 x1 x2 x3 x4 x5 x6 x7))
    (k0_pay18 places (shaped x0 x1 x2 x3 x4 x5 x6 x7)) (k0_pay19 places (k0_pay9 (F := Ideal)) (shaped x0 x1 x2 x3 x4 x5 x6 x7))
    (upper x0 x1 x2 x3 x4 x5 x6 x7) (k0_pay28 (k0_pay4 x0 x1 x2) (k0_pay5 x0 x1 x2)) (k0_pay29 (k0_pay6 x0 x1 x2)) x8 x9 x3 x4

/-- The second stage's selection in the kernel. -/
def result : FVec Ideal S1x2048 .f32 :=
  k0_pay34 (k0_pay8 x6) places (k0_pay32 (k0_pay11 (F := Ideal)) (picked x0 x1 x2 x3 x4 x5 x6 x7)) (products2 x0 x1 x2 x3 x4 x5 x6 x7 x8 x9) x5

/-- The kernel's first selection is the router's. -/
theorem row_picked :
    row (picked x0 x1 x2 x3 x4 x5 x6 x7) = first (kemb x0 x1 x2) (fun a k => x3 (ix2 a k)) (fun a d => x4 (ix2 a d)) (row x5) (x6 (ix2 0 0))
      (fun k => x7 (ix2 0 k)) := by
  have hs : shaped x0 x1 x2 x3 x4 x5 x6 x7
      = vShape (logistic (vScore (vProducts (vQuery (k0_pay10 x7) x3) (k0_pay2 x0 x1 x2) x4) (k0_pay11 (F := Ideal)) x5 (k0_pay8 x6))) := rfl
  have hq : (fun k => k0_pay10 x7 (ix2 0 k)) = fun k => x7 (ix2 0 k) := funext fun k => pay10_apply x7 k
  have hl : row (logistic (vScore (vProducts (vQuery (k0_pay10 x7) x3) (k0_pay2 x0 x1 x2) x4) (k0_pay11 (F := Ideal)) x5 (k0_pay8 x6)))
      = fun t => Ideal.logistic (score (query (fun k => x7 (ix2 0 k)) fun a k => x3 (ix2 a k)) (key (kemb x0 x1 x2) fun a d => x4 (ix2 a d))
          (row x5) (fun _ => 0) (temp (x6 (ix2 0 0))) t) := by
    funext t
    rw [row_vScore, row_vProducts, row_pay11, pay8_eq]
    simp only [vQuery_apply, hq]
    rfl
  unfold first pick
  rw [picked, row_pay14, hs, row_vShape, hl]

/-- The accumulator starts at zero. -/
theorem pay20_apply : k0_pay20 (F := Ideal) (ix2 0 0) = 0 := by
  pointwise [k0_pay20]

/-- The kernel's mean pairwise distance: for finite tokens the three tiles give the router's. -/
theorem compact_eq (r : Fin 2048 → Fin 64 → ℝ) (hr : kemb x0 x1 x2 = fun t d => (r t d : EReal)) :
    vCompact (k0_pay7 x0 x1 x2) (picked x0 x1 x2 x3 x4 x5 x6 x7) (k0_pay17 places (shaped x0 x1 x2 x3 x4 x5 x6 x7))
        (upper x0 x1 x2 x3 x4 x5 x6 x7) (k0_pay28 (k0_pay4 x0 x1 x2) (k0_pay5 x0 x1 x2)) (k0_pay29 (k0_pay6 x0 x1 x2)) (ix2 0 0)
      = compactness (row (picked x0 x1 x2 x3 x4 x5 x6 x7)) (Router.dist (kemb x0 x1 x2)) := by
  have hy : ∀ t, ∃ s : ℝ, row (picked x0 x1 x2 x3 x4 x5 x6 x7) t = (s : EReal) := fun t => by
    rw [row_picked]
    obtain ⟨s, _, _, e⟩ := unit01_pick (score (query (fun k => x7 (ix2 0 k)) fun a k => x3 (ix2 a k))
      (key (kemb x0 x1 x2) fun a d => x4 (ix2 a d)) (row x5) (fun _ => 0) (temp (x6 (ix2 0 0)))) t
    exact ⟨s, e⟩
  choose s hs using hy
  have hs' : row (picked x0 x1 x2 x3 x4 x5 x6 x7) = fun t => (s t : EReal) := funext hs
  have hu : upper x0 x1 x2 x3 x4 x5 x6 x7 (ix2 0 0) = 0 + tile (row (picked x0 x1 x2 x3 x4 x5 x6 x7)) (kdist (kemb x0 x1 x2)) 0 0 (by omega) (by omega)
      + c2 * tile (row (picked x0 x1 x2 x3 x4 x5 x6 x7)) (kdist (kemb x0 x1 x2)) 0 1024 (by omega) (by omega) := by
    rw [← pay20_apply]
    exact pay27_apply (kemb x0 x1 x2) _ _ _ _ (pay4_apply x0 x1 x2) (pay5_apply x0 x1 x2) (pay6_apply x0 x1 x2) (pay7_apply x0 x1 x2) _ _
  rw [vCompact_apply (kemb x0 x1 x2) _ _ _ _ (pay4_apply x0 x1 x2) (pay5_apply x0 x1 x2) (pay6_apply x0 x1 x2) (pay7_apply x0 x1 x2),
    hu, zero_add, pay17_apply]
  unfold compactness
  congr 1
  have hk : kdist (kemb x0 x1 x2) = fun i j => (realDist r i j : EReal) := by
    rw [hr]; exact funext fun i => funext fun j => kdist_coe r i j
  have hd : Router.dist (kemb x0 x1 x2) = fun i j => (realDist r i j : EReal) := by
    rw [hr]; exact funext fun i => funext fun j => dist_coe r i j
  rw [hk, hd, hs', tiles_eq s (realDist r) (realDist_comm r)]

/-- The kernel's memory between the stages is the router's, for finite tokens. -/
theorem memory_eq (r : Fin 2048 → Fin 64 → ℝ) (hr : kemb x0 x1 x2 = fun t d => (r t d : EReal)) :
    (fun a => vMemory (k0_pay10 x7) (k0_pay16 places (shaped x0 x1 x2 x3 x4 x5 x6 x7)) (k0_pay18 places (shaped x0 x1 x2 x3 x4 x5 x6 x7))
        (k0_pay19 places (k0_pay9 (F := Ideal)) (shaped x0 x1 x2 x3 x4 x5 x6 x7))
        (vCompact (k0_pay7 x0 x1 x2) (picked x0 x1 x2 x3 x4 x5 x6 x7) (k0_pay17 places (shaped x0 x1 x2 x3 x4 x5 x6 x7))
          (upper x0 x1 x2 x3 x4 x5 x6 x7) (k0_pay28 (k0_pay4 x0 x1 x2) (k0_pay5 x0 x1 x2)) (k0_pay29 (k0_pay6 x0 x1 x2))) x8 x9 (ix2 0 a))
      = between (kemb x0 x1 x2) (fun a k => x3 (ix2 a k)) (fun a d => x4 (ix2 a d)) (row x5) (x6 (ix2 0 0))
          (fun k => x7 (ix2 0 k)) (fun a k => x8 (ix2 a k)) (fun a => x9 (ix2 0 a)) := by
  have hq : (fun k => k0_pay10 x7 (ix2 0 k)) = fun k => x7 (ix2 0 k) := funext fun k => pay10_apply x7 k
  funext a
  unfold between
  rw [← row_picked, vMemory_apply, compact_eq x0 x1 x2 x3 x4 x5 x6 x7 r hr, pay16_apply, pay18_apply, pay19_apply, hq]
  rfl

/-- The value the kernel stores for a batch of finite tokens is the router's result for that batch. -/
theorem row_result (r : Fin 2048 → Fin 64 → ℝ) (hr : kemb x0 x1 x2 = fun t d => (r t d : EReal)) :
    row (result x0 x1 x2 x3 x4 x5 x6 x7 x8 x9)
      = routed (kemb x0 x1 x2) (fun a k => x3 (ix2 a k)) (fun a d => x4 (ix2 a d)) (row x5) (x6 (ix2 0 0))
          (fun k => x7 (ix2 0 k)) (fun a k => x8 (ix2 a k)) (fun a => x9 (ix2 0 a)) := by
  unfold routed
  rw [← row_picked, ← memory_eq x0 x1 x2 x3 x4 x5 x6 x7 x8 x9 r hr]
  have hs : result x0 x1 x2 x3 x4 x5 x6 x7 x8 x9 = k0_pay14 places (vShape (logistic (vScore (products2 x0 x1 x2 x3 x4 x5 x6 x7 x8 x9)
      (k0_pay32 (k0_pay11 (F := Ideal)) (picked x0 x1 x2 x3 x4 x5 x6 x7)) x5 (k0_pay8 x6)))) := pay34_eq _ _ _ _ _
  unfold pick
  rw [hs, row_pay14, row_vShape]
  refine congrArg (fun f => clear0 (damp 2 (damp 1 (budget f)))) (funext fun t => ?_)
  rw [row_vScore, row_pay32, row_pay11, pay8_eq, zero_add]
  unfold products2
  rw [pay33_eq, row_vProducts]
  simp only [vQuery_apply]
  rfl

end Block

end Cert.KernelValue

end
-- ==== Proof.KernelFinal.lean ====
/-
  The kernel's result array after the run, as one function of the arguments.
-/
module

public import proofs.«01_k».proof.Proof.KernelBlock
public import proofs.«01_k».proof.Proof.Gen.KernelIdeal.Value
public import Idealize.ShloMosaic.Lib.Pipeline.ValueKit

@[expose] public section

set_option maxRecDepth 16384

noncomputable section

namespace Cert.KernelValue

open Cert.KernelIdeal Cert.KernelIdeal.Gen Cert.Router Idealize.ShloMosaic Idealize.ShloMosaic.TcCoe

variable (m : (ℓ : Loc nD τ sig) → Buf (Elt Ideal) ℓ) (c : Dev nD)

/-- The kernel's arguments, each as an array of numbers. -/
abbrev kX : FVec Ideal S4x2048x1024 .f32 := m ((c : Thread nD τ).loc main_arg0)
/-- The projection's weights. -/
abbrev kW : FVec Ideal S64x1024 .f32 := m ((c : Thread nD τ).loc main_arg1)
/-- The projection's bias. -/
abbrev kB : FVec Ideal S64 .f32 := m ((c : Thread nD τ).loc main_arg2)
/-- The query weights. -/
abbrev kWq : FVec Ideal S64x128 .f32 := m ((c : Thread nD τ).loc main_arg3)
/-- The key weights. -/
abbrev kWk : FVec Ideal S64x64 .f32 := m ((c : Thread nD τ).loc main_arg4)
/-- The position bias. -/
abbrev kBp : FVec Ideal S2048 .f32 := m ((c : Thread nD τ).loc main_arg6)
/-- The temperature's logarithm. -/
abbrev kLt : FVec Ideal S_ .f32 := m ((c : Thread nD τ).loc main_arg7)
/-- The initial memory. -/
abbrev kM0 : FVec Ideal S128 .f32 := m ((c : Thread nD τ).loc main_arg8)
/-- The memory weights. -/
abbrev kWm : FVec Ideal S128x132 .f32 := m ((c : Thread nD τ).loc main_arg9)
/-- The memory bias. -/
abbrev kBm : FVec Ideal S128 .f32 := m ((c : Thread nD τ).loc main_arg10)

/-- A batch's encoded tokens. -/
abbrev kEmb (b : Fin 4) : Fin 2048 → Fin 64 → EReal :=
  emb (fun t k => kX m c (ix3 b t k)) (fun d k => kW m c (ix2 d k)) (fun d => kB m c (ix1 d))

/-- The router's result for every batch, from the kernel's arguments. -/
def kGoal : FVec Ideal S4x1x2048 .f32 := fun i =>
  routed (kEmb m c (i 0)) (fun a k => kWq m c (ix2 a k)) (fun a d => kWk m c (ix2 a d)) (fun t => kBp m c (ix1 t))
    (kLt m c ix0) (fun k => kM0 m c (ix1 k)) (fun a k => kWm m c (ix2 a k)) (fun a => kBm m c (ix1 a)) (i 2)

/-- The block of the inputs at a grid point is the batch of that number. -/
theorem index0 : ∀ t : Fin cfg0.N, win0_0.index t = ![t.val, 0, 0] := (by decide +kernel : ∀ t : Fin grid0.N, win0_0.index t = ![t.val, 0, 0])

/-- The block of window 1 is the whole array: its index is zero at every grid point. -/
theorem index1 : ∀ t : Fin cfg0.N, win0_1.index t = ![0, 0] := (by decide +kernel : ∀ t : Fin grid0.N, win0_1.index t = ![0, 0])
/-- The block of window 2 is the whole array: its index is zero at every grid point. -/
theorem index2 : ∀ t : Fin cfg0.N, win0_2.index t = ![0, 0] := (by decide +kernel : ∀ t : Fin grid0.N, win0_2.index t = ![0, 0])
/-- The block of window 3 is the whole array: its index is zero at every grid point. -/
theorem index3 : ∀ t : Fin cfg0.N, win0_3.index t = ![0, 0] := (by decide +kernel : ∀ t : Fin grid0.N, win0_3.index t = ![0, 0])
/-- The block of window 4 is the whole array: its index is zero at every grid point. -/
theorem index4 : ∀ t : Fin cfg0.N, win0_4.index t = ![0, 0] := (by decide +kernel : ∀ t : Fin grid0.N, win0_4.index t = ![0, 0])
/-- The block of window 5 is the whole array: its index is zero at every grid point. -/
theorem index5 : ∀ t : Fin cfg0.N, win0_5.index t = ![0, 0] := (by decide +kernel : ∀ t : Fin grid0.N, win0_5.index t = ![0, 0])
/-- The block of window 6 is the whole array: its index is zero at every grid point. -/
theorem index6 : ∀ t : Fin cfg0.N, win0_6.index t = ![0, 0] := (by decide +kernel : ∀ t : Fin grid0.N, win0_6.index t = ![0, 0])
/-- The block of window 7 is the whole array: its index is zero at every grid point. -/
theorem index7 : ∀ t : Fin cfg0.N, win0_7.index t = ![0, 0] := (by decide +kernel : ∀ t : Fin grid0.N, win0_7.index t = ![0, 0])
/-- The block of window 8 is the whole array: its index is zero at every grid point. -/
theorem index8 : ∀ t : Fin cfg0.N, win0_8.index t = ![0, 0] := (by decide +kernel : ∀ t : Fin grid0.N, win0_8.index t = ![0, 0])
/-- The block of window 9 is the whole array: its index is zero at every grid point. -/
theorem index9 : ∀ t : Fin cfg0.N, win0_9.index t = ![0, 0] := (by decide +kernel : ∀ t : Fin grid0.N, win0_9.index t = ![0, 0])

/-- The result's block at a grid point is the batch of that number. -/
theorem index10 : ∀ t : Fin cfg0.N, win0_10.index t = ![t.val, 0, 0] := (by decide +kernel : ∀ t : Fin grid0.N, win0_10.index t = ![t.val, 0, 0])

/-- The block of the inputs at a grid point, read at a token and an input feature: that batch's inputs. -/
theorem blk0 (t : Fin cfg0.N) (b : Fin 4) (hb : b.val = t.val) (a : Fin 2048) (k : Fin 1024) : iblk m c 0 t (ix3 0 a k) = kX m c (ix3 b a k) := by
  blk_ext [iblk, V, index0 t]
/-- The projection's block is the projection. -/
theorem blk1 (t : Fin cfg0.N) (a : Fin 64) (k : Fin 1024) : iblk m c 1 t (ix2 a k) = kW m c (ix2 a k) := by
  blk_ext [iblk, V, index1 t]
/-- The projection bias's block, one row, is the bias. -/
theorem blk2 (t : Fin cfg0.N) (a : Fin 64) : iblk m c 2 t (ix2 0 a) = kB m c (ix1 a) := by
  blk_ext! [iblk, V, index2 t]
/-- The query weights' block is the query weights. -/
theorem blk3 (t : Fin cfg0.N) (a : Fin 64) (k : Fin 128) : iblk m c 3 t (ix2 a k) = kWq m c (ix2 a k) := by
  blk_ext [iblk, V, index3 t]
/-- The key weights' block is the key weights. -/
theorem blk4 (t : Fin cfg0.N) (a : Fin 64) (k : Fin 64) : iblk m c 4 t (ix2 a k) = kWk m c (ix2 a k) := by
  blk_ext [iblk, V, index4 t]
/-- The position bias's block, one row, is the bias. -/
theorem blk5 (t : Fin cfg0.N) (a : Fin 2048) : iblk m c 5 t (ix2 0 a) = kBp m c (ix1 a) := by
  blk_ext! [iblk, V, index5 t]
/-- The temperature's block, one entry, is the scalar. -/
theorem blk6 (t : Fin cfg0.N) : iblk m c 6 t (ix2 0 0) = kLt m c ix0 := by
  blk_ext! [iblk, V, index6 t]
/-- The initial memory's block, one row, is the initial memory. -/
theorem blk7 (t : Fin cfg0.N) (a : Fin 128) : iblk m c 7 t (ix2 0 a) = kM0 m c (ix1 a) := by
  blk_ext! [iblk, V, index7 t]
/-- The memory weights' block is the memory weights. -/
theorem blk8 (t : Fin cfg0.N) (a : Fin 128) (k : Fin 132) : iblk m c 8 t (ix2 a k) = kWm m c (ix2 a k) := by
  blk_ext [iblk, V, index8 t]
/-- The memory bias's block, one row, is the bias. -/
theorem blk9 (t : Fin cfg0.N) (a : Fin 128) : iblk m c 9 t (ix2 0 a) = kBm m c (ix1 a) := by
  blk_ext! [iblk, V, index9 t]

/-- What is stored is the row itself under two unit axes. -/
theorem pay1_apply (v : FVec Ideal S1x2048 .f32) (j : Fin 2048) : k0_pay1 v (ix3 0 0 j) = row v j := by
  unfold row
  pointwise [k0_pay1]

/-- The value stored at a grid point is the router's result for the batch of that number. -/
theorem point (hfin : ∀ b, ∃ r : Fin 2048 → Fin 64 → ℝ, kEmb m c b = fun t d => (r t d : EReal))
    (t : Fin cfg0.N) (b : Fin 4) (hb : b.val = t.val) (j : Fin 2048) :
    k0_pay1 (result (iblk m c 0 t) (iblk m c 1 t) (iblk m c 2 t) (iblk m c 3 t) (iblk m c 4 t) (iblk m c 5 t) (iblk m c 6 t) (iblk m c 7 t)
      (iblk m c 8 t) (iblk m c 9 t)) (ix3 0 0 j) = kGoal m c (ix3 b 0 j) := by
  obtain ⟨r, hr⟩ := hfin b
  have hx : (fun a k => iblk m c 0 t (ix3 0 a k)) = fun a k => kX m c (ix3 b a k) := funext fun a => funext fun k => blk0 m c t b hb a k
  have hw : (fun a k => iblk m c 1 t (ix2 a k)) = fun a k => kW m c (ix2 a k) := funext fun a => funext fun k => blk1 m c t a k
  have hbi : (fun a => iblk m c 2 t (ix2 0 a)) = fun a => kB m c (ix1 a) := funext fun a => blk2 m c t a
  have hwq : (fun a k => iblk m c 3 t (ix2 a k)) = fun a k => kWq m c (ix2 a k) := funext fun a => funext fun k => blk3 m c t a k
  have hwk : (fun a k => iblk m c 4 t (ix2 a k)) = fun a k => kWk m c (ix2 a k) := funext fun a => funext fun k => blk4 m c t a k
  have hbp : row (iblk m c 5 t) = fun a => kBp m c (ix1 a) := funext fun a => blk5 m c t a
  have hm : (fun a => iblk m c 7 t (ix2 0 a)) = fun a => kM0 m c (ix1 a) := funext fun a => blk7 m c t a
  have hwm : (fun a k => iblk m c 8 t (ix2 a k)) = fun a k => kWm m c (ix2 a k) := funext fun a => funext fun k => blk8 m c t a k
  have hbm : (fun a => iblk m c 9 t (ix2 0 a)) = fun a => kBm m c (ix1 a) := funext fun a => blk9 m c t a
  have he : kemb (iblk m c 0 t) (iblk m c 1 t) (iblk m c 2 t) = kEmb m c b := by
    unfold kEmb
    rw [← hx, ← hw, ← hbi]
    exact funext fun a => funext fun d => pay2_apply _ _ _ a d
  rw [pay1_apply, row_result _ _ _ _ _ _ _ _ _ _ r (he.trans hr), he, hwq, hwk, hbp, blk6 m c t, hm, hwm, hbm]
  rfl

/-- The result array after the run is the router's result, where every batch's encoded tokens are finite. -/
theorem final (hfin : ∀ b, ∃ r : Fin 2048 → Fin 64 → ℝ, kEmb m c b = fun t d => (r t d : EReal)) :
    (dats m 0 c).arrAt 10 cfg0.N = kGoal m c := by
  refine (dats m 0 c).arrAt_eq_of_covers 10 _ (by decide +kernel) fun t hf y => ?_
  blk_simp
  rw [after0_10, outsAt0]
  frame_out
  have hN : t.val < 4 := t.isLt
  have key : ∀ y : S1x1x2048.Idx, k0_pay1 (result (iblk m c 0 t) (iblk m c 1 t) (iblk m c 2 t) (iblk m c 3 t) (iblk m c 4 t) (iblk m c 5 t)
      (iblk m c 6 t) (iblk m c 7 t) (iblk m c 8 t) (iblk m c 9 t)) y = kGoal m c (((View.whole main_v5).slice (win0_10.rect t)).emb y) := by
    intro y
    idx_vars y
    obtain rfl : y0 = 0 := Subsingleton.elim _ _
    obtain rfl : y1 = 0 := Subsingleton.elim _ _
    refine (point m c hfin t ⟨t.val, hN⟩ rfl y2).trans ?_
    blk_ext [index10 t]
  exact key y

end Cert.KernelValue

end
-- ==== Proof.RefValue.lean ====
/-
  The reference's values, batch by batch, read down to the router's definitions.
-/
module

public import proofs.«01_k».proof.Proof.Spec
public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.RefRead

open Cert.ReferenceIdeal Cert.ReferenceIdeal.Gen Cert.ReferenceIdeal.Value Cert.Router Idealize.ShloMosaic Idealize.ShloMosaic.TcCoe

/-- One batch's row of a table of 2048 values each. -/
def row (v : FVec Ideal S4x2048 .f32) (b : Fin 4) (t : Fin 2048) : EReal := v (ix2 b t)

/-! ## The selector's row operations, as arrays over all batches -/

/-- A scalar constant at every place of the table. -/
abbrev splat (w : BitVec 32) : FVec Ideal S4x2048 .f32 := broadcastInDim S4x2048 ![] bcast_S_S4x2048 (constant S_ .f32 w)

/-- The sum of each batch's row. -/
abbrev rowSum (y : FVec Ideal S4x2048 .f32) : FVec Ideal S4 .f32 :=
  Host.reduceAdd y (constant S_ .f32 0x00000000#32) reducesTo_S4x2048_S4_d1 h_S_

/-- The sums as a column, at least the small constant. -/
def aTotal (y : FVec Ideal S4x2048 .f32) : FVec Ideal S4x1 .f32 :=
  maximumf (broadcastInDim S4x1 ![0] bcast_S4_S4x1_0 (rowSum y)) (broadcastInDim S4x1 ![] bcast_S_S4x1 (constant S_ .f32 0x358637BD#32))

/-- The table budgeted. -/
def aBudget (y : FVec Ideal S4x2048 .f32) : FVec Ideal S4x2048 .f32 :=
  mulf y (broadcastInDim S4x2048 ![0, 1] bcast_S4x1_S4x2048_0_1 (minimumf (Host.divf (broadcastInDim S4x1 ![] bcast_S_S4x1 (constant S_ .f32 0x43000000#32)) (aTotal y))
    (broadcastInDim S4x1 ![] bcast_S_S4x1 (constant S_ .f32 0x3F800000#32))))

/-- The table damped by a table of neighbours. -/
def aDamp (y n : FVec Ideal S4x2048 .f32) : FVec Ideal S4x2048 .f32 :=
  mulf y (minimumf (Host.divf (splat 0x40000000#32) (addf (addf (splat 0x3F800000#32) y) n)) (splat 0x3F800000#32))

/-- The table read one position ahead, around the end. -/
def aAhead1 (y : FVec Ideal S4x2048 .f32) : FVec Ideal S4x2048 .f32 :=
  concatenate S4x2048 1 [⟨S4x2047, extractStridedSlice S4x2047 ![0, 1] y slices_S4x2048_S4x2047_0_1⟩,
    ⟨S4x1, extractStridedSlice S4x1 ![0, 0] y slices_S4x2048_S4x1_0_0⟩] concatenates_S4x2047_S4x1_S4x2048_d1

/-- The table read two positions ahead, around the end. -/
def aAhead2 (y : FVec Ideal S4x2048 .f32) : FVec Ideal S4x2048 .f32 :=
  concatenate S4x2048 1 [⟨S4x2046, extractStridedSlice S4x2046 ![0, 2] y slices_S4x2048_S4x2046_0_2⟩,
    ⟨S4x2, extractStridedSlice S4x2 ![0, 0] y slices_S4x2048_S4x2_0_0⟩] concatenates_S4x2046_S4x2_S4x2048_d1

/-- The table with position zero cleared. -/
def aClear (y : FVec Ideal S4x2048 .f32) : FVec Ideal S4x2048 .f32 :=
  Host.scatter scatter_S4x2048_S1_S4_0_1_1_0 (fun _ b => b) y (broadcastInDim S1 ![] bcast_S_S1 (constantI S_ 32 0#32))
    (broadcastInDim S4 ![] bcast_S_S4 (constant S_ .f32 0x00000000#32))

/-- The logistic function as the reference spells it. -/
def aLogistic (s : FVec Ideal S4x2048 .f32) : FVec Ideal S4x2048 .f32 :=
  Host.divf (splat 0x3F800000#32) (addf (splat 0x3F800000#32) (Host.exp (Host.negf s)))

/-- A batch's row of the spelt-out logistic is the logistic of its row. -/
theorem row_aLogistic (s : FVec Ideal S4x2048 .f32) (b : Fin 4) : row (aLogistic s) b = fun t => Ideal.logistic (row s b t) := by
  funext t
  unfold row Ideal.logistic
  pointwise [aLogistic]

/-- A batch's entry of the totals is the total of its row. -/
theorem aTotal_apply (y : FVec Ideal S4x2048 .f32) (b : Fin 4) : aTotal y (ix2 b 0) = total (row y b) := by
  unfold row total
  pointwise [aTotal, ofBits_eps]

/-- A batch's budgeted row is the budget of its row. -/
theorem row_aBudget (y : FVec Ideal S4x2048 .f32) (b : Fin 4) : row (aBudget y) b = budget (row y b) := by
  funext t
  have h := aTotal_apply y b
  unfold total at h
  unfold budget
  rw [← h]
  unfold row
  pointwise [aBudget]

/-- A batch's row damped by neighbours that are the row read `d` ahead is the damping of the row. -/
theorem row_aDamp (d : ℕ) (y n : FVec Ideal S4x2048 .f32) (b : Fin 4) (h : row n b = ahead d (row y b)) : row (aDamp y n) b = damp d (row y b) := by
  funext t
  unfold damp
  rw [← h]
  unfold row
  pointwise [aDamp]

/-- The joined slices that begin one position in read each row one ahead, around the end. -/
theorem row_aAhead1 (y : FVec Ideal S4x2048 .f32) (b : Fin 4) : row (aAhead1 y) b = ahead 1 (row y b) := by
  funext t
  unfold row ahead
  pointwise [aAhead1]
  have ht := t.isLt
  split
  · next h => exact congrArg (fun k => y (ix2 b k)) (Fin.ext (by show 1 + t.val = (t.val + 1) % 2048; omega))
  · next h => exact congrArg (fun k => y (ix2 b k)) (Fin.ext (by show t.val - 2047 = (t.val + 1) % 2048; omega))

/-- The joined slices that begin two positions in read each row two ahead, around the end. -/
theorem row_aAhead2 (y : FVec Ideal S4x2048 .f32) (b : Fin 4) : row (aAhead2 y) b = ahead 2 (row y b) := by
  funext t
  unfold row ahead
  pointwise [aAhead2]
  have ht := t.isLt
  split
  · next h => exact congrArg (fun k => y (ix2 b k)) (Fin.ext (by show 2 + t.val = (t.val + 2) % 2048; omega))
  · next h => exact congrArg (fun k => y (ix2 b k)) (Fin.ext (by show t.val - 2046 = (t.val + 2) % 2048; omega))

/-- Update `k` of the scatter lands at batch `k`, position zero. -/
theorem lands (idx : IVec S1 32) (hidx : ∀ i, idx i = 0#32) (k b : Fin 4) (t : Fin 2048) :
    scatter_S4x2048_S1_S4_0_1_1_0.resultIdx? (ix1 k) idx = some (ix2 b t) ↔ k = b ∧ t.val = 0 := by
  rw [Routing.resultIdx?_eq_some]
  have hs0 : scatter_S4x2048_S1_S4_0_1_1_0.start (ix1 k) idx 0 = 0 := by
    unfold ScatterDims.start
    rw [dif_neg (by decide)]
  have hs1 : scatter_S4x2048_S1_S4_0_1_1_0.start (ix1 k) idx 1 = 0 := by
    unfold ScatterDims.start
    rw [dif_pos (by decide), hidx]
    rfl
  have hw0 : scatter_S4x2048_S1_S4_0_1_1_0.window (ix1 k) 0 = k.val := by
    unfold ScatterDims.window
    rw [dif_pos (by decide)]
    rfl
  have hw1 : scatter_S4x2048_S1_S4_0_1_1_0.window (ix1 k) 1 = 0 := by
    unfold ScatterDims.window
    rw [dif_neg (by decide)]
  constructor
  · intro h
    have h0 := h 0
    have h1 := h 1
    rw [hs0, hw0] at h0
    rw [hs1, hw1] at h1
    change (0 : ℤ) + (k.val : ℤ) = (b.val : ℤ) at h0
    change (0 : ℤ) + ((0 : ℕ) : ℤ) = (t.val : ℤ) at h1
    exact ⟨Fin.ext (by omega), by omega⟩
  · rintro ⟨rfl, h0⟩ a
    match a with
    | ⟨0, _⟩ =>
      show scatter_S4x2048_S1_S4_0_1_1_0.start (ix1 k) idx 0 + (scatter_S4x2048_S1_S4_0_1_1_0.window (ix1 k) 0 : ℤ) = (k.val : ℤ)
      rw [hs0, hw0]; omega
    | ⟨1, _⟩ =>
      show scatter_S4x2048_S1_S4_0_1_1_0.start (ix1 k) idx 1 + (scatter_S4x2048_S1_S4_0_1_1_0.window (ix1 k) 1 : ℤ) = (t.val : ℤ)
      rw [hs1, hw1, h0]; rfl

/-- A fold that replaces its value by `z` at the selected members of a list ends in `z` if one is selected, in the start otherwise. -/
theorem foldl_set {α β : Type} (p : β → Prop) [DecidablePred p] (z a : α) (l : List β) (q : Prop) [Decidable q] (h : (∃ n ∈ l, p n) ↔ q) :
    l.foldl (fun a n => if p n then z else a) a = if q then z else a := by
  have key : ∀ a, ((∃ n ∈ l, p n) → l.foldl (fun a n => if p n then z else a) a = z) ∧
      ((¬ ∃ n ∈ l, p n) → l.foldl (fun a n => if p n then z else a) a = a) := by
    clear h
    induction l with
    | nil => simp
    | cons n l ih =>
      intro a
      rw [List.foldl_cons]
      by_cases h : p n
      · have hz := ih z
        rw [if_pos h]
        refine ⟨fun _ => ?_, fun hn => absurd ⟨n, by simp, h⟩ hn⟩
        by_cases h' : ∃ n ∈ l, p n
        · exact hz.1 h'
        · exact hz.2 h'
      · rw [if_neg h]
        simpa [h] using ih a
  by_cases hq : q
  · rw [if_pos hq, (key a).1 (h.2 hq)]
  · rw [if_neg hq, (key a).2 fun hn => hq (h.1 hn)]

/-- Writing zero at position zero of every batch clears it in each row. -/
theorem row_aClear (y : FVec Ideal S4x2048 .f32) (b : Fin 4) : row (aClear y) b = clear0 (row y b) := by
  funext t
  unfold row clear0 aClear
  rw [Routing.scatter_at]
  have hz : ∀ i : S4.Idx, (broadcastInDim S4 ![] bcast_S_S4 (constant (F := Ideal) S_ .f32 0x00000000#32)) i = 0 := fun i => by
    pointwise
  simp only [hz]
  have hidx : ∀ i, (broadcastInDim S1 ![] bcast_S_S1 (constantI S_ 32 0#32)) i = 0#32 := fun i => rfl
  refine foldl_set _ _ _ _ (t.val = 0) ⟨?_, fun h => ?_⟩
  · rintro ⟨n, _, hn⟩
    generalize S4.rowMajor.symm n = k at hn
    idx_vars k
    exact ((lands _ hidx _ b t).1 hn).2
  · exact ⟨S4.rowMajor (ix1 b), List.mem_finRange _, by rw [Equiv.symm_apply_apply]; exact (lands _ hidx b b t).2 ⟨rfl, h⟩⟩

/-- The selector on tables. -/
def aPick (s : FVec Ideal S4x2048 .f32) : FVec Ideal S4x2048 .f32 :=
  aClear (aDamp (aDamp (aBudget (aLogistic s)) (aAhead1 (aBudget (aLogistic s))))
    (aAhead2 (aDamp (aBudget (aLogistic s)) (aAhead1 (aBudget (aLogistic s))))))

/-- The selector of the tables, batch by batch, is the router's selector. -/
theorem row_aPick (s : FVec Ideal S4x2048 .f32) (b : Fin 4) : row (aPick s) b = pick (row s b) := by
  unfold aPick pick
  rw [row_aClear, row_aDamp 2 _ _ b (row_aAhead2 _ b), row_aDamp 1 _ _ b (row_aAhead1 _ b), row_aBudget, row_aLogistic]

end Cert.RefRead

end
-- ==== Proof.RefFinal.lean ====
/-
  The reference's result, read batch by batch: each batch's row is the router's result for that batch.
-/
module

public import proofs.«01_k».proof.Proof.RefValue

@[expose] public section

set_option maxRecDepth 16384

noncomputable section

namespace Cert.RefRead

open Cert.ReferenceIdeal Cert.ReferenceIdeal.Gen Cert.ReferenceIdeal.Value Cert.Router Idealize.ShloMosaic Idealize.ShloMosaic.TcCoe

/-! ## The reference's stages as arrays over all batches -/

/-- The encoded tokens. -/
def aEmb (x : FVec Ideal S4x2048x1024 .f32) (w : FVec Ideal S64x1024 .f32) (b : FVec Ideal S64 .f32) : FVec Ideal S4x2048x64 .f32 :=
  addf (Host.dotGeneral dot_S4x2048x1024_S64x1024_S4x2048x64_2_1_01_0_n_n none x w)
    (broadcastInDim S4x2048x64 ![0, 1, 2] bcast_S1x1x64_S4x2048x64_0_1_2 (broadcastInDim S1x1x64 ![2] bcast_S64_S1x1x64_2 b))

/-- The tokens' squared norms. -/
def aNorm (u : FVec Ideal S4x2048x64 .f32) : FVec Ideal S4x2048 .f32 :=
  Host.reduceAdd (mulf u u) (constant S_ .f32 0x00000000#32) reducesTo_S4x2048x64_S4x2048_d2 h_S_

/-- A row table repeated along the columns of a square. -/
abbrev down (y : FVec Ideal S4x2048 .f32) : FVec Ideal S4x2048x2048 .f32 :=
  broadcastInDim S4x2048x2048 ![0, 1, 2] bcast_S4x2048x1_S4x2048x2048_0_1_2 (broadcastInDim S4x2048x1 ![0, 1] bcast_S4x2048_S4x2048x1_0_1 y)

/-- A row table repeated along the rows of a square. -/
abbrev along (y : FVec Ideal S4x2048 .f32) : FVec Ideal S4x2048x2048 .f32 :=
  broadcastInDim S4x2048x2048 ![0, 1, 2] bcast_S4x1x2048_S4x2048x2048_0_1_2 (broadcastInDim S4x1x2048 ![0, 2] bcast_S4x2048_S4x1x2048_0_2 y)

/-- The pairwise distances. -/
def aDist (u : FVec Ideal S4x2048x64 .f32) : FVec Ideal S4x2048x2048 .f32 :=
  Host.sqrt (addf (maximumf (subf (addf (down (aNorm u)) (along (aNorm u)))
    (mulf (broadcastInDim S4x2048x2048 ![] bcast_S_S4x2048x2048 (constant S_ .f32 0x40000000#32))
      (Host.dotGeneral dot_S4x2048x64_S4x2048x64_S4x2048x2048_2_2_1_1_0_0 none u u)))
    (broadcastInDim S4x2048x2048 ![] bcast_S_S4x2048x2048 (constant S_ .f32 0x00000000#32)))
    (broadcastInDim S4x2048x2048 ![] bcast_S_S4x2048x2048 (constant S_ .f32 0x358637BD#32)))

/-- The products of the tokens' keys with the memory's query. -/
def aProducts (u : FVec Ideal S4x2048x64 .f32) (wq : FVec Ideal S64x128 .f32) (wk : FVec Ideal S64x64 .f32) (v : FVec Ideal S4x128 .f32) : FVec Ideal S4x2048 .f32 :=
  Host.dotGeneral dot_S4x2048x64_S4x64_S4x2048_2_1_1_n_0_0 none (Host.dotGeneral dot_S4x2048x64_S64x64_S4x2048x64_2_1_01_0_n_n none u wk)
    (Host.dotGeneral dot_S4x128_S128x64_S4x64_1_0_0_1_n_n none v (transpose S128x64 [1, 0] wq transposes_S64x128_S128x64_1_0))

/-- The scores from the products. -/
def aScore (p : FVec Ideal S4x2048 .f32) (bp : FVec Ideal S2048 .f32) (lt : FVec Ideal S_ .f32) (prev : FVec Ideal S4x2048 .f32) : FVec Ideal S4x2048 .f32 :=
  Host.divf (subf (addf (Host.divf p (splat 0x41000000#32)) (broadcastInDim S4x2048 ![0, 1] bcast_S1x2048_S4x2048_0_1 (broadcastInDim S1x2048 ![1] bcast_S2048_S1x2048_1 bp)))
    (mulf (splat 0x3F800000#32) prev))
    (broadcastInDim S4x2048 ![] bcast_S_S4x2048 (minimumf (id (constant S_ .f32 0x41200000#32)) (maximumf (id (constant S_ .f32 0x3DCCCCCD#32)) (Host.exp lt))))

/-- The initial memory for every batch. -/
def aMem0 (v : FVec Ideal S128 .f32) : FVec Ideal S4x128 .f32 :=
  broadcastInDim S4x128 ![0, 1] bcast_S1x128_S4x128_0_1 (broadcastInDim S1x128 ![1] bcast_S128_S1x128_1 v)

/-- The mean selections. -/
def aCoverage (y : FVec Ideal S4x2048 .f32) : FVec Ideal S4 .f32 :=
  Host.divf (rowSum y) (broadcastInDim S4 ![] bcast_S_S4 (constant S_ .f32 0x45000000#32))

/-- The normalized selections. -/
def aShare (y : FVec Ideal S4x2048 .f32) : FVec Ideal S4x2048 .f32 :=
  Host.divf y (broadcastInDim S4x2048 ![0, 1] bcast_S4x1_S4x2048_0_1 (aTotal y))

/-- The entropies. -/
def aEntropy (y : FVec Ideal S4x2048 .f32) : FVec Ideal S4 .f32 :=
  Host.negf (rowSum (mulf (aShare y) (Host.log (maximumf (aShare y) (splat 0x358637BD#32)))))

/-- The positions in every batch's row. -/
abbrev aPos : FVec Ideal S4x2048 .f32 :=
  broadcastInDim S4x2048 ![0, 1] bcast_S1x2048_S4x2048_0_1 (broadcastInDim S1x2048 ![1] bcast_S2048_S1x2048_1 (sitofp .f32 (iotaInDim S2048 32 0)))

/-- The positions less their weighted means. -/
def aCentred (y : FVec Ideal S4x2048 .f32) : FVec Ideal S4x2048 .f32 :=
  subf aPos (broadcastInDim S4x2048 ![0, 1] bcast_S4x1_S4x2048_0_1
    (Host.divf (broadcastInDim S4x1 ![0] bcast_S4_S4x1_0 (rowSum (mulf y aPos))) (aTotal y)))

/-- The weighted standard deviations of the positions. -/
def aSpacing (y : FVec Ideal S4x2048 .f32) : FVec Ideal S4 .f32 :=
  Host.sqrt (maximumf (Host.divf (rowSum (mulf y (mulf (aCentred y) (aCentred y)))) (shapeCast S4 (aTotal y) shapeCasts_S4x1_S4))
    (broadcastInDim S4 ![] bcast_S_S4 (constant S_ .f32 0x358637BD#32)))

/-- The sums at least the small constant, without the column. -/
abbrev aTotalFlat (y : FVec Ideal S4x2048 .f32) : FVec Ideal S4 .f32 :=
  maximumf (rowSum y) (broadcastInDim S4 ![] bcast_S_S4 (constant S_ .f32 0x358637BD#32))

/-- The mean pairwise distances. -/
def aCompact (y : FVec Ideal S4x2048 .f32) (D : FVec Ideal S4x2048x2048 .f32) : FVec Ideal S4 .f32 :=
  Host.divf (Host.reduceAdd (mulf (mulf (along y) (down y)) D) (constant S_ .f32 0x00000000#32) reducesTo_S4x2048x2048_S4_d1_2 h_S_)
    (mulf (aTotalFlat y) (aTotalFlat y))

/-- A list of numbers as a column. -/
abbrev col (s : FVec Ideal S4 .f32) : FVec Ideal S4x1 .f32 := broadcastInDim S4x1 ![0] bcast_S4_S4x1_0 s

/-- The memory with four statistics behind it. -/
def aJoined (v : FVec Ideal S4x128 .f32) (s0 s1 s2 s3 : FVec Ideal S4 .f32) : FVec Ideal S4x132 .f32 :=
  concatenate S4x132 1 [⟨S4x128, v⟩, ⟨S4x4, concatenate S4x4 1 [⟨S4x1, col s0⟩, ⟨S4x1, col s1⟩, ⟨S4x1, col s2⟩, ⟨S4x1, col s3⟩]
    concatenates_S4x1_S4x1_S4x1_S4x1_S4x4_d1⟩] concatenates_S4x128_S4x4_S4x132_d1

/-- The memory after a stage, from the joined vector. -/
def aMemory (j : FVec Ideal S4x132 .f32) (wm : FVec Ideal S128x132 .f32) (bm : FVec Ideal S128 .f32) : FVec Ideal S4x128 .f32 :=
  Host.tanh (addf (Host.dotGeneral dot_S4x132_S132x128_S4x128_1_0_0_1_n_n none j (transpose S132x128 [1, 0] wm transposes_S128x132_S132x128_1_0))
    (broadcastInDim S4x128 ![0, 1] bcast_S1x128_S4x128_0_1 (broadcastInDim S1x128 ![1] bcast_S128_S1x128_1 bm)))

/-! ## Their values -/

/-- One batch's tokens. -/
def tok (u : FVec Ideal S4x2048x64 .f32) (b : Fin 4) (t : Fin 2048) (d : Fin 64) : EReal := u (ix3 b t d)

/-- The encoded tokens of a batch are the projection of that batch's inputs. -/
theorem tok_aEmb (x : FVec Ideal S4x2048x1024 .f32) (w : FVec Ideal S64x1024 .f32) (bp : FVec Ideal S64 .f32) (b : Fin 4) :
    tok (aEmb x w bp) b = emb (fun t k => x (ix3 b t k)) (fun d k => w (ix2 d k)) (fun d => bp (ix1 d)) := by
  funext t d
  unfold tok emb
  pointwise [aEmb]

/-- The norms of a batch's tokens. -/
theorem aNorm_apply (u : FVec Ideal S4x2048x64 .f32) (b : Fin 4) (t : Fin 2048) : aNorm u (ix2 b t) = sqNorm (tok u b) t := by
  unfold tok sqNorm
  pointwise [aNorm]

/-- The distances of a batch's tokens. -/
theorem aDist_apply (u : FVec Ideal S4x2048x64 .f32) (b : Fin 4) (i j : Fin 2048) : aDist u (ix3 b i j) = Router.dist (tok u b) i j := by
  unfold Router.dist
  rw [← aNorm_apply, ← aNorm_apply, ← ofBits_eps]
  unfold tok
  pointwise [aDist]

/-- The products of a batch: query times key. -/
theorem row_aProducts (u : FVec Ideal S4x2048x64 .f32) (wq : FVec Ideal S64x128 .f32) (wk : FVec Ideal S64x64 .f32) (v : FVec Ideal S4x128 .f32)
    (b : Fin 4) (t : Fin 2048) :
    row (aProducts u wq wk v) b t = ∑ a, query (fun k => v (ix2 b k)) (fun a k => wq (ix2 a k)) a * key (tok u b) (fun a d => wk (ix2 a d)) t a := by
  unfold row tok query key
  pointwise [aProducts]
  exact Finset.sum_congr rfl fun a _ => mul_comm _ _

/-- The scores of a batch. -/
theorem row_aScore (p : FVec Ideal S4x2048 .f32) (bp : FVec Ideal S2048 .f32) (lt : FVec Ideal S_ .f32) (prev : FVec Ideal S4x2048 .f32)
    (b : Fin 4) (t : Fin 2048) :
    row (aScore p bp lt prev) b t = Ideal.div (Ideal.div (row p b t) c8 + bp (ix1 t) - row prev b t) (temp (lt ix0)) := by
  unfold row temp
  pointwise [aScore]
  rfl

/-- The initial memory is the same in every batch. -/
theorem aMem0_apply (v : FVec Ideal S128 .f32) (b : Fin 4) (k : Fin 128) : aMem0 v (ix2 b k) = v (ix1 k) := by
  pointwise [aMem0]

/-- A batch's mean selection. -/
theorem aCoverage_apply (y : FVec Ideal S4x2048 .f32) (b : Fin 4) : aCoverage y (ix1 b) = coverage (row y b) := by
  unfold coverage row
  pointwise [aCoverage]

/-- A batch's normalized selection. -/
theorem aShare_apply (y : FVec Ideal S4x2048 .f32) (b : Fin 4) (t : Fin 2048) : aShare y (ix2 b t) = Ideal.div (row y b t) (total (row y b)) := by
  rw [← aTotal_apply]
  unfold row
  pointwise [aShare]

/-- A batch's entropy. -/
theorem aEntropy_apply (y : FVec Ideal S4x2048 .f32) (b : Fin 4) : aEntropy y (ix1 b) = entropy (row y b) := by
  unfold entropy
  simp only [← aShare_apply, ← ofBits_eps]
  pointwise [aEntropy]

/-- A batch's centred positions. -/
theorem aCentred_apply (y : FVec Ideal S4x2048 .f32) (b : Fin 4) (t : Fin 2048) : aCentred y (ix2 b t) = centred (row y b) t := by
  unfold centred
  rw [← aTotal_apply]
  unfold row pos
  pointwise [aCentred]

/-- A batch's spacing. -/
theorem aSpacing_apply (y : FVec Ideal S4x2048 .f32) (b : Fin 4) : aSpacing y (ix1 b) = spacing (row y b) := by
  unfold spacing
  simp only [← aCentred_apply, ← ofBits_eps, ← aTotal_apply]
  unfold row
  pointwise [aSpacing]

/-- A batch's mean pairwise distance. -/
theorem aCompact_apply (y : FVec Ideal S4x2048 .f32) (D : FVec Ideal S4x2048x2048 .f32) (b : Fin 4) :
    aCompact y D (ix1 b) = compactness (row y b) fun i j => D (ix3 b i j) := by
  unfold compactness total row
  pointwise [aCompact, ofBits_eps]

/-- A batch's joined vector. -/
theorem aJoined_apply (v : FVec Ideal S4x128 .f32) (s0 s1 s2 s3 : FVec Ideal S4 .f32) (b : Fin 4) (k : Fin 132) :
    aJoined v s0 s1 s2 s3 (ix2 b k) = joined (fun k => v (ix2 b k)) (s0 (ix1 b)) (s1 (ix1 b)) (s2 (ix1 b)) (s3 (ix1 b)) k := by
  unfold joined
  pointwise [aJoined]
  split_ifs <;> first | rfl | omega

/-- A batch's memory after a stage. -/
theorem aMemory_apply (j : FVec Ideal S4x132 .f32) (wm : FVec Ideal S128x132 .f32) (bm : FVec Ideal S128 .f32) (b : Fin 4) (a : Fin 128) :
    aMemory j wm bm (ix2 b a) = memory (fun k => j (ix2 b k)) (fun a k => wm (ix2 a k)) (fun a => bm (ix1 a)) a := by
  unfold memory
  pointwise [aMemory]

/-! ## The whole reference -/

section Whole
variable (V0 : Valuation τ sig (Elt Ideal))

/-- The arguments, each as an array of numbers. -/
abbrev rX : FVec Ideal S4x2048x1024 .f32 := V0 (Proc.devRef .tc main_arg0)
/-- The projection's weights. -/
abbrev rW : FVec Ideal S64x1024 .f32 := V0 (Proc.devRef .tc main_arg1)
/-- The projection's bias. -/
abbrev rB : FVec Ideal S64 .f32 := V0 (Proc.devRef .tc main_arg2)
/-- The query weights. -/
abbrev rWq : FVec Ideal S64x128 .f32 := V0 (Proc.devRef .tc main_arg3)
/-- The key weights. -/
abbrev rWk : FVec Ideal S64x64 .f32 := V0 (Proc.devRef .tc main_arg4)
/-- The position bias. -/
abbrev rBp : FVec Ideal S2048 .f32 := V0 (Proc.devRef .tc main_arg6)
/-- The temperature's logarithm. -/
abbrev rLt : FVec Ideal S_ .f32 := V0 (Proc.devRef .tc main_arg7)
/-- The initial memory. -/
abbrev rM0 : FVec Ideal S128 .f32 := V0 (Proc.devRef .tc main_arg8)
/-- The memory weights. -/
abbrev rWm : FVec Ideal S128x132 .f32 := V0 (Proc.devRef .tc main_arg9)
/-- The memory bias. -/
abbrev rBm : FVec Ideal S128 .f32 := V0 (Proc.devRef .tc main_arg10)

/-- The encoded tokens of the arguments. -/
abbrev rU : FVec Ideal S4x2048x64 .f32 := aEmb (rX V0) (rW V0) (rB V0)

/-- The first stage's selection. -/
abbrev rFirst : FVec Ideal S4x2048 .f32 :=
  aPick (aScore (aProducts (rU V0) (rWq V0) (rWk V0) (aMem0 (rM0 V0))) (rBp V0) (rLt V0) (splat 0x00000000#32))

/-- The memory between the stages. -/
abbrev rMem : FVec Ideal S4x128 .f32 :=
  aMemory (aJoined (aMem0 (rM0 V0)) (aCoverage (rFirst V0)) (aEntropy (rFirst V0)) (aSpacing (rFirst V0)) (aCompact (rFirst V0) (aDist (rU V0))))
    (rWm V0) (rBm V0)

/-- The second stage's selection. -/
abbrev rSecond : FVec Ideal S4x2048 .f32 :=
  aPick (aScore (aProducts (rU V0) (rWq V0) (rWk V0) (rMem V0)) (rBp V0) (rLt V0) (addf (splat 0x00000000#32) (rFirst V0)))

/-- The generated names spell the first stage. -/
theorem v77_eq : res_main_v77 V0 = rFirst V0 := rfl

/-- The generated names spell the memory between the stages. -/
theorem v138_eq : res_main_v138 V0 = rMem V0 := rfl

/-- The generated names spell the second stage. -/
theorem v193_eq : res_main_v193 V0 = rSecond V0 := rfl

/-- A batch's inputs encoded. -/
abbrev rEmb (b : Fin 4) : Fin 2048 → Fin 64 → EReal :=
  emb (fun t k => rX V0 (ix3 b t k)) (fun d k => rW V0 (ix2 d k)) (fun d => rB V0 (ix1 d))

/-- A batch's first selection. -/
theorem row_rFirst (b : Fin 4) :
    row (rFirst V0) b = first (rEmb V0 b) (fun a k => rWq V0 (ix2 a k)) (fun a d => rWk V0 (ix2 a d)) (fun t => rBp V0 (ix1 t))
      (rLt V0 ix0) (fun k => rM0 V0 (ix1 k)) := by
  unfold first
  rw [row_aPick]
  congr 1
  funext t
  have hz : row (splat 0x00000000#32) b t = 0 := by
    unfold row
    pointwise
  have hm : (fun k => aMem0 (rM0 V0) (ix2 b k)) = fun k => rM0 V0 (ix1 k) := funext fun k => aMem0_apply _ b k
  rw [row_aScore, row_aProducts, hz, hm, tok_aEmb]
  rfl

/-- A batch's memory between the stages. -/
theorem rMem_apply (b : Fin 4) :
    (fun a => rMem V0 (ix2 b a)) = between (rEmb V0 b) (fun a k => rWq V0 (ix2 a k)) (fun a d => rWk V0 (ix2 a d)) (fun t => rBp V0 (ix1 t))
      (rLt V0 ix0) (fun k => rM0 V0 (ix1 k)) (fun a k => rWm V0 (ix2 a k)) (fun a => rBm V0 (ix1 a)) := by
  unfold between
  rw [← row_rFirst]
  funext a
  have hm : (fun k => aMem0 (rM0 V0) (ix2 b k)) = fun k => rM0 V0 (ix1 k) := funext fun k => aMem0_apply _ b k
  have hd : (fun i j => aDist (rU V0) (ix3 b i j)) = Router.dist (rEmb V0 b) := funext fun i => funext fun j => by rw [aDist_apply, tok_aEmb]
  have hj : (fun k => aJoined (aMem0 (rM0 V0)) (aCoverage (rFirst V0)) (aEntropy (rFirst V0)) (aSpacing (rFirst V0))
        (aCompact (rFirst V0) (aDist (rU V0))) (ix2 b k))
      = joined (fun k => rM0 V0 (ix1 k)) (coverage (row (rFirst V0) b)) (entropy (row (rFirst V0) b)) (spacing (row (rFirst V0) b))
          (compactness (row (rFirst V0) b) (Router.dist (rEmb V0 b))) := funext fun k => by
    rw [aJoined_apply, hm, aCoverage_apply, aEntropy_apply, aSpacing_apply, aCompact_apply, hd]
  refine (aMemory_apply _ _ _ b a).trans ?_
  rw [hj]

/-- A batch's row of the reference's result is the router's result for that batch. -/
theorem row_v193 (b : Fin 4) :
    row (res_main_v193 V0) b = routed (rEmb V0 b) (fun a k => rWq V0 (ix2 a k)) (fun a d => rWk V0 (ix2 a d)) (fun t => rBp V0 (ix1 t))
      (rLt V0 ix0) (fun k => rM0 V0 (ix1 k)) (fun a k => rWm V0 (ix2 a k)) (fun a => rBm V0 (ix1 a)) := by
  unfold routed
  rw [← row_rFirst, ← rMem_apply, v193_eq, row_aPick]
  congr 1
  funext t
  have hp : row (addf (splat 0x00000000#32) (rFirst V0)) b t = row (rFirst V0) b t := by
    unfold row
    generalize rFirst V0 = y
    pointwise
  rw [row_aScore, row_aProducts, hp, tok_aEmb]
  rfl

end Whole

end Cert.RefRead

end
-- ==== Proof.PreFinite.lean ====
/-
  The precondition read: the inputs, the projection and its bias are finite, so the encoded tokens are real numbers.
-/
module

public import proofs.«01_k».proof.Defs
public import proofs.«01_k».proof.Proof.Algebra
public import proofs.«01_k».proof.Proof.Gen.Pre_finite
public import Idealize.ShloMosaic.Lib.Pointwise
public import Idealize.ShloMosaic.Lib.ReduceAll

@[expose] public section

set_option maxRecDepth 16384

noncomputable section

namespace Cert.Router

open Cert.Pre_finite Cert.Pre_finite.Gen Idealize.ShloMosaic

/-- A number whose magnitude compares below infinity is real. -/
theorem real_of_abs_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  have hi : Ideal.ofBits .f32 0x7F800000#32 = ⊤ := by
    simp [Ideal.ofBits, Ideal.ieee]
  rw [hi] at h
  induction x with
  | bot => exact absurd h (by simp [FloatOps.cmpf, FloatOps.absf, Ideal.cmp])
  | top => exact absurd h (by simp [FloatOps.cmpf, FloatOps.absf, Ideal.cmp])
  | coe r => exact ⟨r, rfl⟩

/-- The precondition says that every input, every weight of the projection and every bias is real. -/
theorem finite_of_pre (x : FVec Ideal S4x2048x1024 .f32) (w : FVec Ideal S64x1024 .f32) (b : FVec Ideal S64 .f32) (a3 a4 a5 a6 a7 a8 a9 a10)
    (h : Cert.Pre_finite.fn (F := Ideal) x w b a3 a4 a5 a6 a7 a8 a9 a10 = fun _ => 1#1) :
    (∀ i, ∃ r : ℝ, x i = (r : EReal)) ∧ (∀ i, ∃ r : ℝ, w i = (r : EReal)) ∧ (∀ i, ∃ r : ℝ, b i = (r : EReal)) := by
  have h0 := congrFun h ix0
  dsimp only [Cert.Pre_finite.fn] at h0
  obtain ⟨h1, hb⟩ := IntOp.andi_eq_one.1 h0
  obtain ⟨hx, hw⟩ := IntOp.andi_eq_one.1 h1
  refine ⟨fun i => real_of_abs_lt _ ?_, fun i => real_of_abs_lt _ ?_, fun i => real_of_abs_lt _ ?_⟩
  · exact Host.reduce_andi_all _ _ _ _ _ hx i
  · exact Host.reduce_andi_all _ _ _ _ _ hw i
  · exact Host.reduce_andi_all _ _ _ _ _ hb i

/-- Finite inputs, weights and biases encode to real tokens. -/
theorem emb_real (x : Fin 2048 → Fin 1024 → EReal) (w : Fin 64 → Fin 1024 → EReal) (b : Fin 64 → EReal)
    (hx : ∀ t k, ∃ r : ℝ, x t k = (r : EReal)) (hw : ∀ d k, ∃ r : ℝ, w d k = (r : EReal)) (hb : ∀ d, ∃ r : ℝ, b d = (r : EReal)) :
    ∃ r : Fin 2048 → Fin 64 → ℝ, emb x w b = fun t d => (r t d : EReal) := by
  choose rx ex using hx
  choose rw' ew using hw
  choose rb eb using hb
  refine ⟨fun t d => (∑ k, rx t k * rw' d k) + rb d, funext fun t => funext fun d => ?_⟩
  unfold emb
  simp only [ex, ew, eb, ← EReal.coe_mul, ← coe_sum, ← EReal.coe_add]

end Cert.Router

end
-- ==== Proof.Tie.lean ====
/-
  The two results side by side: from the same finite arguments the kernel's array and the reference's are equal.
-/
module

public import proofs.«01_k».proof.Proof.KernelFinal
public import proofs.«01_k».proof.Proof.RefFinal
public import proofs.«01_k».proof.Proof.PreFinite

@[expose] public section

set_option maxRecDepth 16384

noncomputable section

namespace Cert.Tie

open Cert.Router Idealize.ShloMosaic Idealize.ShloMosaic.TcCoe

/-- The reference's result, a batch axis, a unit axis and a position axis, read at an index: the second selection of that batch. -/
theorem spread_apply (v : FVec Ideal Cert.ReferenceIdeal.S4x2048 .f32) (b : Fin 4) (z : Fin 1) (t : Fin 2048) :
    broadcastInDim Cert.ReferenceIdeal.S4x1x2048 ![0, 2] Cert.ReferenceIdeal.Gen.bcast_S4x2048_S4x1x2048_0_2 v (ix3 b z t) = Cert.RefRead.row v b t := by
  unfold Cert.RefRead.row
  pointwise

/-- Arguments that agree give the reference the router's result of the kernel's arguments. -/
theorem reference_eq (m : (ℓ : Loc Cert.KernelIdeal.nD Cert.KernelIdeal.τ Cert.KernelIdeal.sig) → Buf (Elt Ideal) ℓ) (c : Dev Cert.KernelIdeal.nD)
    (V0 : Idealize.ShloMosaic.Valuation Cert.ReferenceIdeal.τ Cert.ReferenceIdeal.sig (Elt Ideal))
    (h0 : Cert.RefRead.rX V0 = Cert.KernelValue.kX m c) (h1 : Cert.RefRead.rW V0 = Cert.KernelValue.kW m c)
    (h2 : Cert.RefRead.rB V0 = Cert.KernelValue.kB m c) (h3 : Cert.RefRead.rWq V0 = Cert.KernelValue.kWq m c)
    (h4 : Cert.RefRead.rWk V0 = Cert.KernelValue.kWk m c) (h6 : Cert.RefRead.rBp V0 = Cert.KernelValue.kBp m c)
    (h7 : Cert.RefRead.rLt V0 = Cert.KernelValue.kLt m c) (h8 : Cert.RefRead.rM0 V0 = Cert.KernelValue.kM0 m c)
    (h9 : Cert.RefRead.rWm V0 = Cert.KernelValue.kWm m c) (h10 : Cert.RefRead.rBm V0 = Cert.KernelValue.kBm m c) :
    (broadcastInDim Cert.ReferenceIdeal.S4x1x2048 ![0, 2] Cert.ReferenceIdeal.Gen.bcast_S4x2048_S4x1x2048_0_2 (Cert.ReferenceIdeal.Value.res_main_v193 V0) : FVec Ideal Cert.ReferenceIdeal.S4x1x2048 .f32)
      = Cert.KernelValue.kGoal m c := by
  funext i
  idx_vars i
  rw [spread_apply, Cert.RefRead.row_v193]
  unfold Cert.RefRead.rEmb
  rw [h0, h1, h2, h3, h4, h6, h7, h8, h9, h10]
  rfl

/-- Under the precondition every batch's encoded tokens are real. -/
theorem tokens_real (m : (ℓ : Loc Cert.KernelIdeal.nD Cert.KernelIdeal.τ Cert.KernelIdeal.sig) → Buf (Elt Ideal) ℓ)
    (h : Cert.Pre_KernelIdeal_finite m) (c : Dev Cert.KernelIdeal.nD) (b : Fin 4) :
    ∃ r : Fin 2048 → Fin 64 → ℝ, Cert.KernelValue.kEmb m c b = fun t d => (r t d : EReal) := by
  obtain ⟨hx, hw, hb⟩ := finite_of_pre _ _ _ _ _ _ _ _ _ _ _ (h c)
  exact emb_real _ _ _ (fun t k => hx (ix3 b t k)) (fun d k => hw (ix2 d k)) (fun d => hb (ix1 d))

end Cert.Tie

end
-- ==== Proof.lean ====
/-
  The five claims assembled: the three frames, the named constants' statement, and the equality of the idealized
  kernel's result with the reference's (Proof/Tie.lean, over Proof/KernelFinal.lean and Proof/RefFinal.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Tie
public import Idealize.ShloMosaic.Adequacy
public import Idealize.ShloMosaic.Init

@[expose] public section

noncomputable section

namespace Cert.Proof

open Idealize.ShloMosaic Idealize.SL.Sem Cert.Kernel

/-- The idealized reference runs, leaves its arguments as they were, and has no counter to leave nonzero. -/
theorem reference_frame : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

/-- The idealized kernel and the reference, run from the same finite arguments, end with the same result. -/
theorem results_equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hpre hag => by
  refine ⟨fun c => Cert.KernelValue.kGoal m c, ?_, ?_⟩
  · exact (θ_run _ _ _).mono (fun r h c => ⟨(h c).1.trans (Cert.KernelValue.final m c (Cert.Tie.tokens_real m hpre c)), (h c).2⟩)
      (Cert.KernelIdeal.Value.run_blocks (F := Ideal) m g)
  · refine (θ_run _ _ _).mono (fun r h c => ⟨(h c).1.trans ?_, (h c).2⟩) (Cert.ReferenceIdeal.Value.run (F := Ideal) m' g')
    obtain ⟨h0, h1, h2, h3, h4, _, h6, h7, h8, h9, h10⟩ := hag c
    exact Cert.Tie.reference_eq m c _ h0 h1 h2 h3 h4 h6 h7 h8 h9 h10

/-- The whole claim. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    ⟨IdealRules.named_const.statement Cert.KernelIdeal.κ "eps" .f32 0x358637BD#32 _ rfl,
      IdealRules.named_const.statement Cert.KernelIdeal.κ "eps" .bf16 0x3586#16 _ rfl⟩,
    results_equal⟩

end Cert.Proof

end
